-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x512x2880 : Shape := ⟨3, ![3, 512, 2880]⟩
abbrev S3x512 : Shape := ⟨2, ![3, 512]⟩
abbrev S3x512x5760 : Shape := ⟨3, ![3, 512, 5760]⟩
abbrev S2880x5760 : Shape := ⟨2, ![2880, 5760]⟩
abbrev S2880 : Shape := ⟨1, ![2880]⟩
abbrev S2880x8 : Shape := ⟨2, ![2880, 8]⟩
abbrev S8x5760 : Shape := ⟨2, ![8, 5760]⟩
abbrev S_ : Shape := ⟨0, ![]⟩

class Facts : Prop where
  natLt_8_32 : 8 < 32
  bcast_S_S3x512x2880 : S_.BroadcastsInDim S3x512x2880 (![] : Fin 0 → Fin S3x512x2880.rank)
  bcast_S_S3x512x5760 : S_.BroadcastsInDim S3x512x5760 (![] : Fin 0 → Fin S3x512x5760.rank)
  bcast_S_S3x512 : S_.BroadcastsInDim S3x512 (![] : Fin 0 → Fin S3x512.rank)
  bcast_S_S2880x8 : S_.BroadcastsInDim S2880x8 (![] : Fin 0 → Fin S2880x8.rank)
  bcast_S_S8x5760 : S_.BroadcastsInDim S8x5760 (![] : Fin 0 → Fin S8x5760.rank)

variable [Facts]

def fn_part1 {F : FTy → Type} [FloatOps F] (main_arg7 : FVec F S8x5760 .bf16) (main_v7 : IVec S3x512x2880 1) (main_v9 : IVec S3x512x5760 1) (main_v12 : IVec S3x512 1) (main_v15 : IVec S3x512 1) (main_v16 : FVec F S2880x8 .bf16) (main_cst_4 : FVec F S_ .bf16) : IVec S3x512x2880 1 × IVec S3x512x5760 1 × IVec S3x512 1 × IVec S3x512 1 × IVec S2880x8 1 × IVec S8x5760 1 :=
  let main_v17 : FVec F S2880x8 .bf16 := broadcastInDim S2880x8 ![] bcast_S_S2880x8 main_cst_4
  let main_v18 : IVec S2880x8 1 := cmpf .olt main_v16 main_v17
  let main_v19 : FVec F S8x5760 .bf16 := Host.absf main_arg7
  let main_cst_5 : FVec F S_ .bf16 := constant S_ .bf16 0x7F80#16
  let main_v20 : FVec F S8x5760 .bf16 := broadcastInDim S8x5760 ![] bcast_S_S8x5760 main_cst_5
  let main_v21 : IVec S8x5760 1 := cmpf .olt main_v19 main_v20
  (main_v7, main_v9, main_v12, main_v15, main_v18, main_v21)

def fn {F : FTy → Type} [FloatOps F] (main_arg0 : IVec S3x512x2880 8) (main_arg1 : FVec F S3x512 .f32) (main_arg2 : IVec S3x512x5760 8) (main_arg3 : FVec F S3x512 .f32) (main_arg4 : FVec F S2880x5760 .fp8e4m3) (main_arg5 : FVec F S2880 .f32) (main_arg6 : FVec F S2880x8 .bf16) (main_arg7 : FVec F S8x5760 .bf16) : IVec S3x512x2880 1 × IVec S3x512x5760 1 × IVec S3x512 1 × IVec S3x512 1 × IVec S2880x8 1 × IVec S8x5760 1 :=
  let main_v0 : IVec S3x512x2880 32 := (extui 32 · natLt_8_32) main_arg0
  let main_c : IVec S_ 32 := constantI S_ 32 127#32
  let main_v1 : IVec S3x512x2880 32 := broadcastInDim S3x512x2880 ![] bcast_S_S3x512x2880 main_c
  let main_v2 : IVec S3x512x2880 32 := andi main_v0 main_v1
  let main_v3 : IVec S3x512x5760 32 := (extui 32 · natLt_8_32) main_arg2
  let main_c_0 : IVec S_ 32 := constantI S_ 32 124#32
  let main_v4 : IVec S3x512x5760 32 := broadcastInDim S3x512x5760 ![] bcast_S_S3x512x5760 main_c_0
  let main_v5 : IVec S3x512x5760 32 := andi main_v3 main_v4
  let main_c_1 : IVec S_ 32 := constantI S_ 32 127#32
  let main_v6 : IVec S3x512x2880 32 := broadcastInDim S3x512x2880 ![] bcast_S_S3x512x2880 main_c_1
  let main_v7 : IVec S3x512x2880 1 := cmpi .ne main_v2 main_v6
  let main_c_2 : IVec S_ 32 := constantI S_ 32 124#32
  let main_v8 : IVec S3x512x5760 32 := broadcastInDim S3x512x5760 ![] bcast_S_S3x512x5760 main_c_2
  let main_v9 : IVec S3x512x5760 1 := cmpi .ne main_v5 main_v8
  let main_v10 : FVec F S3x512 .f32 := Host.absf main_arg1
  let main_cst : FVec F S_ .f32 := constant S_ .f32 0x7F800000#32
  let main_v11 : FVec F S3x512 .f32 := broadcastInDim S3x512 ![] bcast_S_S3x512 main_cst
  let main_v12 : IVec S3x512 1 := cmpf .olt main_v10 main_v11
  let main_v13 : FVec F S3x512 .f32 := Host.absf main_arg3
  let main_cst_3 : FVec F S_ .f32 := constant S_ .f32 0x7F800000#32
  let main_v14 : FVec F S3x512 .f32 := broadcastInDim S3x512 ![] bcast_S_S3x512 main_cst_3
  let main_v15 : IVec S3x512 1 := cmpf .olt main_v13 main_v14
  let main_v16 : FVec F S2880x8 .bf16 := Host.absf main_arg6
  let main_cst_4 : FVec F S_ .bf16 := constant S_ .bf16 0x7F80#16
  fn_part1 (F := F) main_arg7 main_v7 main_v9 main_v12 main_v15 main_v16 main_cst_4
-- ==== Kernel.lean ====
abbrev S3x512x2880 : Shape := ⟨3, ![3, 512, 2880]⟩
abbrev S3x512 : Shape := ⟨2, ![3, 512]⟩
abbrev S3x512x5760 : Shape := ⟨3, ![3, 512, 5760]⟩
abbrev S2880x5760 : Shape := ⟨2, ![2880, 5760]⟩
abbrev S2880 : Shape := ⟨1, ![2880]⟩
abbrev S2880x8 : Shape := ⟨2, ![2880, 8]⟩
abbrev S8x5760 : Shape := ⟨2, ![8, 5760]⟩
abbrev S3x2880x512 : Shape := ⟨3, ![3, 2880, 512]⟩
abbrev S8x2880 : Shape := ⟨2, ![8, 2880]⟩
abbrev S2880x1 : Shape := ⟨2, ![2880, 1]⟩
abbrev S2880x9 : Shape := ⟨2, ![2880, 9]⟩
abbrev S3x8x512 : Shape := ⟨3, ![3, 8, 512]⟩
abbrev S1x2880x512 : Shape := ⟨3, ![1, 2880, 512]⟩
abbrev S1x512x5760 : Shape := ⟨3, ![1, 512, 5760]⟩
abbrev S480x5760 : Shape := ⟨2, ![480, 5760]⟩
abbrev S480x9 : Shape := ⟨2, ![480, 9]⟩
abbrev S1x480x512 : Shape := ⟨3, ![1, 480, 512]⟩
abbrev S1x8x512 : Shape := ⟨3, ![1, 8, 512]⟩
abbrev S24x512 : Shape := ⟨2, ![24, 512]⟩
abbrev S1x512 : Shape := ⟨2, ![1, 512]⟩
abbrev S512x5760 : Shape := ⟨2, ![512, 5760]⟩
abbrev S2880x512 : Shape := ⟨2, ![2880, 512]⟩
abbrev S8x512 : Shape := ⟨2, ![8, 512]⟩
abbrev S24x2880 : Shape := ⟨2, ![24, 2880]⟩
abbrev S24x5760 : Shape := ⟨2, ![24, 5760]⟩
abbrev S480x512 : Shape := ⟨2, ![480, 512]⟩
abbrev S480x8 : Shape := ⟨2, ![480, 8]⟩
abbrev S480x24 : Shape := ⟨2, ![480, 24]⟩
abbrev S480x1 : Shape := ⟨2, ![480, 1]⟩
abbrev S3x512x8 : Shape := ⟨3, ![3, 512, 8]⟩

abbrev nBuf : Space → Nat
  | .hbm => 24
  | .vmem => 21
  | .smem => 0
  | _ => 0

abbrev bufTy : (tb : Table) → Fin (tcTables nBuf tb) → BufTy
  | .hbm, ⟨0, _⟩ => ⟨S3x512x2880, .i8⟩
  | .hbm, ⟨1, _⟩ => ⟨S3x512, .f32⟩
  | .hbm, ⟨2, _⟩ => ⟨S3x512x5760, .i8⟩
  | .hbm, ⟨3, _⟩ => ⟨S3x512, .f32⟩
  | .hbm, ⟨4, _⟩ => ⟨S2880x5760, .fp8e4m3⟩
  | .hbm, ⟨5, _⟩ => ⟨S2880, .f32⟩
  | .hbm, ⟨6, _⟩ => ⟨S2880x8, .bf16⟩
  | .hbm, ⟨7, _⟩ => ⟨S8x5760, .bf16⟩
  | .hbm, ⟨8, _⟩ => ⟨S3x512x2880, .fp8e4m3⟩
  | .hbm, ⟨9, _⟩ => ⟨S3x512x5760, .fp8e5m2⟩
  | .hbm, ⟨10, _⟩ => ⟨S3x2880x512, .fp8e4m3⟩
  | .hbm, ⟨11, _⟩ => ⟨S8x2880, .bf16⟩
  | .hbm, ⟨12, _⟩ => ⟨S2880x1, .f32⟩
  | .hbm, ⟨13, _⟩ => ⟨S2880x8, .f32⟩
  | .hbm, ⟨14, _⟩ => ⟨S2880x9, .f32⟩
  | .hbm, ⟨15, _⟩ => ⟨S3x2880x512, .bf16⟩
  | .hbm, ⟨16, _⟩ => ⟨S8x2880, .f32⟩
  | .hbm, ⟨17, _⟩ => ⟨S8x5760, .f32⟩
  | .hbm, ⟨18, _⟩ => ⟨S3x8x512, .f32⟩
  | .hbm, ⟨19, _⟩ => ⟨S3x8x512, .f32⟩
  | .hbm, ⟨20, _⟩ => ⟨S3x512x2880, .bf16⟩
  | .hbm, ⟨21, _⟩ => ⟨S2880x8, .f32⟩
  | .hbm, ⟨22, _⟩ => ⟨S3x512x8, .f32⟩
  | .hbm, ⟨23, _⟩ => ⟨S3x512x8, .f32⟩
  | .local _ .vmem, ⟨0, _⟩ => ⟨S1x2880x512, .fp8e4m3⟩
  | .local _ .vmem, ⟨1, _⟩ => ⟨S1x2880x512, .fp8e4m3⟩
  | .local _ .vmem, ⟨2, _⟩ => ⟨S3x512, .f32⟩
  | .local _ .vmem, ⟨3, _⟩ => ⟨S1x512x5760, .fp8e5m2⟩
  | .local _ .vmem, ⟨4, _⟩ => ⟨S1x512x5760, .fp8e5m2⟩
  | .local _ .vmem, ⟨5, _⟩ => ⟨S3x512, .f32⟩
  | .local _ .vmem, ⟨6, _⟩ => ⟨S480x5760, .fp8e4m3⟩
  | .local _ .vmem, ⟨7, _⟩ => ⟨S480x5760, .fp8e4m3⟩
  | .local _ .vmem, ⟨8, _⟩ => ⟨S480x9, .f32⟩
  | .local _ .vmem, ⟨9, _⟩ => ⟨S480x9, .f32⟩
  | .local _ .vmem, ⟨10, _⟩ => ⟨S8x2880, .bf16⟩
  | .local _ .vmem, ⟨11, _⟩ => ⟨S8x5760, .bf16⟩
  | .local _ .vmem, ⟨12, _⟩ => ⟨S1x480x512, .bf16⟩
  | .local _ .vmem, ⟨13, _⟩ => ⟨S1x480x512, .bf16⟩
  | .local _ .vmem, ⟨14, _⟩ => ⟨S8x2880, .f32⟩
  | .local _ .vmem, ⟨15, _⟩ => ⟨S8x5760, .f32⟩
  | .local _ .vmem, ⟨16, _⟩ => ⟨S1x8x512, .f32⟩
  | .local _ .vmem, ⟨17, _⟩ => ⟨S1x8x512, .f32⟩
  | .local _ .vmem, ⟨18, _⟩ => ⟨S1x8x512, .f32⟩
  | .local _ .vmem, ⟨19, _⟩ => ⟨S1x8x512, .f32⟩
  | .local _ .vmem, ⟨20, _⟩ => ⟨S24x512, .bf16⟩
  | _, _ => ⟨S3x512x2880, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![3, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v26 : Index := Scalar.indexCast arg0
  let c0_14 : Index := 0#32
  ![v26.toNat, 0]
def k0_off2 (i : grid0.Coords) : Fin 2 → Nat :=
  let arg0 : BitVec 32 := BitVec.ofNat 32 (i 0).val
  let v7 : Index := Scalar.indexCast arg0
  let c0_5 : Index := 0#32
  ![v7.toNat, 0]
def k0_cond2 (i : grid0.Coords) : BitVec 1 :=
  let arg0 : BitVec 32 := BitVec.ofNat 32 (i 0).val
  let c0_i32_41 : BitVec 32 := 0#32
  let v100 : BitVec 1 := Scalar.cmpi .eq arg0 c0_i32_41
  let v101 : BitVec 32 := Scalar.extui v100
  let c0_i32_42 : BitVec 32 := 0#32
  let v102 : BitVec 1 := Scalar.cmpi .ne v101 c0_i32_42
  v102

def k0_cond3 (i : grid0.Coords) : BitVec 1 :=
  let arg0 : BitVec 32 := BitVec.ofNat 32 (i 0).val
  let c0_i32_43 : BitVec 32 := 0#32
  let v103 : BitVec 1 := Scalar.cmpi .ne arg0 c0_i32_43
  let v104 : BitVec 32 := Scalar.extui v103
  let c0_i32_44 : BitVec 32 := 0#32
  let v105 : BitVec 1 := Scalar.cmpi .ne v104 c0_i32_44
  v105

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2880x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x5760 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S480x5760 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S480x9 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x2880 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x5760 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x480x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x2880 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x5760 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S3x512x2880 : Shape := ⟨3, ![3, 512, 2880]⟩
abbrev S3x512 : Shape := ⟨2, ![3, 512]⟩
abbrev S3x512x5760 : Shape := ⟨3, ![3, 512, 5760]⟩
abbrev S2880x5760 : Shape := ⟨2, ![2880, 5760]⟩
abbrev S2880 : Shape := ⟨1, ![2880]⟩
abbrev S2880x8 : Shape := ⟨2, ![2880, 8]⟩
abbrev S8x5760 : Shape := ⟨2, ![8, 5760]⟩
abbrev S3x512x8 : Shape := ⟨3, ![3, 512, 8]⟩
abbrev S3x512x1 : Shape := ⟨3, ![3, 512, 1]⟩
abbrev S1x1x2880 : Shape := ⟨3, ![1, 1, 2880]⟩
abbrev S_ : Shape := ⟨0, ![]⟩

abbrev nBuf : Space → Nat
  | .hbm => 51
  | .vmem => 6
  | .smem => 0
  | _ => 0

abbrev bufTy : (tb : Table) → Fin (tcTables nBuf tb) → BufTy
  | .hbm, ⟨0, _⟩ => ⟨S3x512x2880, .i8⟩
  | .hbm, ⟨1, _⟩ => ⟨S3x512, .f32⟩
  | .hbm, ⟨2, _⟩ => ⟨S3x512x5760, .i8⟩
  | .hbm, ⟨3, _⟩ => ⟨S3x512, .f32⟩
  | .hbm, ⟨4, _⟩ => ⟨S2880x5760, .fp8e4m3⟩
  | .hbm, ⟨5, _⟩ => ⟨S2880, .f32⟩
  | .hbm, ⟨6, _⟩ => ⟨S2880x8, .bf16⟩
  | .hbm, ⟨7, _⟩ => ⟨S8x5760, .bf16⟩
  | .hbm, ⟨8, _⟩ => ⟨S3x512x2880, .fp8e4m3⟩
  | .hbm, ⟨9, _⟩ => ⟨S3x512x5760, .fp8e5m2⟩
  | .hbm, ⟨10, _⟩ => ⟨S3x512x2880, .bf16⟩
  | .hbm, ⟨11, _⟩ => ⟨S3x512x5760, .bf16⟩
  | .hbm, ⟨12, _⟩ => ⟨S2880x5760, .bf16⟩
  | .hbm, ⟨13, _⟩ => ⟨S3x512x8, .f32⟩
  | .hbm, ⟨14, _⟩ => ⟨S3x512x1, .f32⟩
  | .hbm, ⟨15, _⟩ => ⟨S3x512x8, .f32⟩
  | .hbm, ⟨16, _⟩ => ⟨S3x512x8, .f32⟩
  | .hbm, ⟨17, _⟩ => ⟨S3x512x8, .f32⟩
  | .hbm, ⟨18, _⟩ => ⟨S3x512x1, .f32⟩
  | .hbm, ⟨19, _⟩ => ⟨S3x512x8, .f32⟩
  | .hbm, ⟨20, _⟩ => ⟨S3x512x8, .f32⟩
  | .hbm, ⟨21, _⟩ => ⟨S3x512x2880, .f32⟩
  | .hbm, ⟨22, _⟩ => ⟨S3x512x1, .f32⟩
  | .hbm, ⟨23, _⟩ => ⟨S1x1x2880, .f32⟩
  | .hbm, ⟨24, _⟩ => ⟨S3x512x2880, .f32⟩
  | .hbm, ⟨25, _⟩ => ⟨S3x512x2880, .f32⟩
  | .hbm, ⟨26, _⟩ => ⟨S3x512x2880, .f32⟩
  | .hbm, ⟨27, _⟩ => ⟨S3x512x2880, .f32⟩
  | .hbm, ⟨28, _⟩ => ⟨S2880x8, .f32⟩
  | .hbm, ⟨29, _⟩ => ⟨S3x512x2880, .f32⟩
  | .hbm, ⟨30, _⟩ => ⟨S_, .f32⟩
  | .hbm, ⟨31, _⟩ => ⟨S3x512x2880, .f32⟩
  | .hbm, ⟨32, _⟩ => ⟨S3x512x2880, .f32⟩
  | .hbm, ⟨33, _⟩ => ⟨S3x512x2880, .f32⟩
  | .hbm, ⟨34, _⟩ => ⟨S3x512x2880, .bf16⟩
  | .hbm, ⟨35, _⟩ => ⟨S3x512x2880, .f32⟩
  | .hbm, ⟨36, _⟩ => ⟨S3x512x1, .f32⟩
  | .hbm, ⟨37, _⟩ => ⟨S3x512x8, .f32⟩
  | .hbm, ⟨38, _⟩ => ⟨S3x512x8, .f32⟩
  | .hbm, ⟨39, _⟩ => ⟨S2880x8, .f32⟩
  | .hbm, ⟨40, _⟩ => ⟨S_, .f32⟩
  | .hbm, ⟨41, _⟩ => ⟨S2880x8, .f32⟩
  | .hbm, ⟨42, _⟩ => ⟨S2880x8, .f32⟩
  | .hbm, ⟨43, _⟩ => ⟨S3x512x1, .f32⟩
  | .hbm, ⟨44, _⟩ => ⟨S3x512x8, .f32⟩
  | .hbm, ⟨45, _⟩ => ⟨S3x512x8, .f32⟩
  | .hbm, ⟨46, _⟩ => ⟨S3x512x5760, .f32⟩
  | .hbm, ⟨47, _⟩ => ⟨S8x5760, .f32⟩
  | .hbm, ⟨48, _⟩ => ⟨S_, .f32⟩
  | .hbm, ⟨49, _⟩ => ⟨S8x5760, .f32⟩
  | .hbm, ⟨50, _⟩ => ⟨S8x5760, .f32⟩
  | .local _ .vmem, ⟨0, _⟩ => ⟨S3x512x2880, .fp8e4m3⟩
  | .local _ .vmem, ⟨1, _⟩ => ⟨S3x512x5760, .fp8e5m2⟩
  | .local _ .vmem, ⟨2, _⟩ => ⟨S2880x5760, .fp8e4m3⟩
  | .local _ .vmem, ⟨3, _⟩ => ⟨S3x512x2880, .bf16⟩
  | .local _ .vmem, ⟨4, _⟩ => ⟨S3x512x5760, .bf16⟩
  | .local _ .vmem, ⟨5, _⟩ => ⟨S2880x5760, .bf16⟩
  | _, _ => ⟨S3x512x2880, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x512x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x5760 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2880x5760 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x2880 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x512x5760 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2880x5760 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KSetup.lean ====
/-
  What the kernel's runs are stated over: the branch conditions of the body in closed form over the grid's points,
  where the outputs' staging buffers are idle or written back, the staging memrefs, and the values the body's stores
  leave, as functions of the blocks the body reads.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.TableIdle
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 6) — by arithmetic of the point. -/
theorem hcond0_0 : ∀ t : Fin cfg0.N, cond0_0 (grid0.coords t) ↔ t.val % 6 = 0 :=
  (fun t => by
    have ht : t.val < 18 := Nat.lt_of_lt_of_eq t.isLt N_0
    have e0 : (grid0.coords t 0).val = t.val / 6 % 3 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points before point 6 — by arithmetic of the point. -/
theorem hcond0_1 : ∀ t : Fin cfg0.N, cond0_1 (grid0.coords t) ↔ t.val < 6 :=
  (fun t => by
    have ht : t.val < 18 := Nat.lt_of_lt_of_eq t.isLt N_0
    have e0 : (grid0.coords t 0).val = t.val / 6 % 3 := Pipeline.Grid.coords_val t 0 (by decide) rfl
    have e1 : (grid0.coords t 1).val = t.val / 1 % 6 := Pipeline.Grid.coords_val t 1 (by decide) rfl
    simp only [cond0_1, k0_cond2, e0, e1]
    word_cmp
   : ∀ t : Fin grid0.N, cond0_1 (grid0.coords t) ↔ t.val < 6)

/-- The condition of the body's `scf.if` 2 (`k0_h3`), from the grid coordinates (the skeleton's scalar
    chain substituted). -/
abbrev cond0_2 (i : grid0.Coords) : Prop := k0_cond3 i = 1#1
/-- It holds at the points from point 6 on — by arithmetic of the point. -/
theorem hcond0_2 : ∀ t : Fin cfg0.N, cond0_2 (grid0.coords t) ↔ 6 ≤ t.val :=
  (fun t => by
    have ht : t.val < 18 := Nat.lt_of_lt_of_eq t.isLt N_0
    have e0 : (grid0.coords t 0).val = t.val / 6 % 3 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ 6 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x2880x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x5760 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S480x5760 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S480x9 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x2880 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x5760 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x480x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x2880 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x5760 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8x512 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S24x512 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## Where the outputs are stored, kept and written back -/

/-- Window 8 is never idle (an output stored at every point). -/
theorem liveAt0_8 : ∀ t : Fin cfg0.N, cfg0.idle 8 (grid0.coords t) = false := fun _ => rfl

/-- The outputs 9 to 12 are stored exactly at the points whose second coordinate is 0. -/
theorem idle_9 : ∀ t : Fin cfg0.N, cfg0.idle 9 (grid0.coords t) = !decide (t.val % 6 = 0) := by decide +kernel
theorem idle_10 : ∀ t : Fin cfg0.N, cfg0.idle 10 (grid0.coords t) = !decide (t.val % 6 = 0) := by decide +kernel
theorem idle_11 : ∀ t : Fin cfg0.N, cfg0.idle 11 (grid0.coords t) = !decide (t.val % 6 = 0) := by decide +kernel
theorem idle_12 : ∀ t : Fin cfg0.N, cfg0.idle 12 (grid0.coords t) = !decide (t.val % 6 = 0) := by decide +kernel

/-- Whether an accumulator's buffer holds nothing the body stored, position by position: only before the first point
    (and after the last). -/
def freshAcc : ℕ → Bool
  | 0 => true
  | n + 1 => decide (n = 17)
theorem fresh_9 (t : Fin cfg0.N) : cfg0.fresh 9 t.val = freshAcc t.val :=
  Pipeline.Cfg.fresh_tab cfg0 9 freshAcc rfl (by decide +kernel) t.val (Nat.le_of_lt t.isLt)
theorem fresh_10 (t : Fin cfg0.N) : cfg0.fresh 10 t.val = freshAcc t.val :=
  Pipeline.Cfg.fresh_tab cfg0 10 freshAcc rfl (by decide +kernel) t.val (Nat.le_of_lt t.isLt)

/-- Whether the buffer of the output 11 or 12 holds nothing the body stored: at the first point of each batch. -/
def freshBat (n : ℕ) : Bool := decide (n % 6 = 0)
theorem fresh_11 (t : Fin cfg0.N) : cfg0.fresh 11 t.val = freshBat t.val :=
  Pipeline.Cfg.fresh_tab cfg0 11 freshBat rfl (by decide +kernel) t.val (Nat.le_of_lt t.isLt)
theorem fresh_12 (t : Fin cfg0.N) : cfg0.fresh 12 t.val = freshBat t.val :=
  Pipeline.Cfg.fresh_tab cfg0 12 freshBat rfl (by decide +kernel) t.val (Nat.le_of_lt t.isLt)

/-! ## What the body's stores leave -/

theorem hz2 : (![0, 0] : Fin 2 → Nat) = fun _ => 0 := funext fun a => by fin_cases a <;> rfl
theorem hz3 : (![0, 0, 0] : Fin 3 → Nat) = fun _ => 0 := funext fun a => by fin_cases a <;> rfl

/-- The row of the scales the body reads at a point: the batch's. -/
def row (i : grid0.Coords) (x : Vec F S3x512 .f32) : Vec F S1x512 .f32 :=
  View.ld x (Rect.unit (s := S3x512) (k0_off2 i) S1x512.size (k0_off2_inb i))

/-- The batch's `t` and `xa` as the outputs 11 and 12 hold them. -/
def tVal (i : grid0.Coords) (x2 : Vec F S1x512x5760 .fp8e5m2) (x3 : Vec F S3x512 .f32) (x7 : Vec F S8x5760 .bf16) : Vec F S1x8x512 .f32 :=
  k0_pay11 (row i x3) x2 x7
def xaVal (i : grid0.Coords) (x0 : Vec F S1x2880x512 .fp8e4m3) (x1 : Vec F S3x512 .f32) (x6 : Vec F S8x2880 .bf16) : Vec F S1x8x512 .f32 :=
  k0_pay12 (row i x1) x0 x6
/-- The three pieces of `2t`, as the scratch holds them. -/
def t3Val (i : grid0.Coords) (x2 : Vec F S1x512x5760 .fp8e5m2) (x3 : Vec F S3x512 .f32) (x7 : Vec F S8x5760 .bf16) : Vec F S24x512 .bf16 :=
  k0_pay1 (k0_pay13 (row i x3) x2 x7)
/-- The batch's part of `dA` and of `dB`. -/
def daVal (i : grid0.Coords) (x0 : Vec F S1x2880x512 .fp8e4m3) (x1 : Vec F S3x512 .f32) (x2 : Vec F S1x512x5760 .fp8e5m2)
    (x3 : Vec F S3x512 .f32) (x7 : Vec F S8x5760 .bf16) : Vec F S8x2880 .f32 :=
  k0_pay2 (row i x1) (k0_pay8 x0) (k0_pay9 (row i x3) x2 x7)
def dbVal (i : grid0.Coords) (x0 : Vec F S1x2880x512 .fp8e4m3) (x1 : Vec F S3x512 .f32) (x2 : Vec F S1x512x5760 .fp8e5m2)
    (x3 : Vec F S3x512 .f32) (x6 : Vec F S8x2880 .bf16) : Vec F S8x5760 .f32 :=
  k0_pay3 (row i x3) (k0_pay7 x2) (k0_pay10 (row i x1) x0 x6)
/-- The point's rows of `dx`, from the scratch's contents. -/
def dxVal (i : grid0.Coords) (x2 : Vec F S1x512x5760 .fp8e5m2) (x3 : Vec F S3x512 .f32) (x4 : Vec F S480x5760 .fp8e4m3)
    (x5 : Vec F S480x9 .f32) (s : Vec F S24x512 .bf16) : Vec F S1x480x512 .bf16 :=
  k0_pay6 x4 x2 (row i x3) x5 s

/-- The eight inputs' staging buffers, whole, at their contents. -/
def ins (c : Dev nD) (a2 : Memref sig .tc .vmem S1x2880x512 .fp8e4m3) (a3 : Memref sig .tc .vmem S3x512 .f32)
    (a4 : Memref sig .tc .vmem S1x512x5760 .fp8e5m2) (a5 : Memref sig .tc .vmem S3x512 .f32) (a6 : Memref sig .tc .vmem S480x5760 .fp8e4m3)
    (a7 : Memref sig .tc .vmem S480x9 .f32) (a8 : Memref sig .tc .vmem S8x2880 .bf16) (a9 : Memref sig .tc .vmem S8x5760 .bf16)
    (x0 : Vec F S1x2880x512 .fp8e4m3) (x1 : Vec F S3x512 .f32) (x2 : Vec F S1x512x5760 .fp8e5m2) (x3 : Vec F S3x512 .f32)
    (x4 : Vec F S480x5760 .fp8e4m3) (x5 : Vec F S480x9 .f32) (x6 : Vec F S8x2880 .bf16) (x7 : Vec F S8x5760 .bf16) : sProp 𝕄 :=
  iprop(owns (c : Thread nD τ) a2 fullShare x0 ∗ owns (c : Thread nD τ) a3 fullShare x1 ∗ owns (c : Thread nD τ) a4 fullShare x2
    ∗ owns (c : Thread nD τ) a5 fullShare x3 ∗ owns (c : Thread nD τ) a6 fullShare x4 ∗ owns (c : Thread nD τ) a7 fullShare x5
    ∗ owns (c : Thread nD τ) a8 fullShare x6 ∗ owns (c : Thread nD τ) a9 fullShare x7)

end Cert.KernelIdeal.Gen

end
-- ==== Proof.KRun.lean ====
/-
  The body's run in each of its three cases, with what every store leaves named: the first point (the accumulators
  started), the first point of a later batch (the accumulators added to), and any other point (only `dx` stored).
-/
module

public import proofs.«01_k».proof.Proof.KSetup

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A covering store through the whole buffer leaves its payload. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

/-! A load of a whole buffer reads its contents. -/

theorem ldS480x5760 {e : EltTy} (inb) (X : S480x5760.Idx → Elt F e) : View.ld X (Rect.unit (s := S480x5760) ![0, 0] ![480, 5760] inb) = X :=
  View.ld_unit_zero hz2 inb X
theorem ldS1x512x5760 {e : EltTy} (inb) (X : S1x512x5760.Idx → Elt F e) : View.ld X (Rect.unit (s := S1x512x5760) ![0, 0, 0] ![1, 512, 5760] inb) = X :=
  View.ld_unit_zero hz3 inb X
theorem ldS1x2880x512 {e : EltTy} (inb) (X : S1x2880x512.Idx → Elt F e) : View.ld X (Rect.unit (s := S1x2880x512) ![0, 0, 0] ![1, 2880, 512] inb) = X :=
  View.ld_unit_zero hz3 inb X
theorem ldS480x9 {e : EltTy} (inb) (X : S480x9.Idx → Elt F e) : View.ld X (Rect.unit (s := S480x9) ![0, 0] ![480, 9] inb) = X :=
  View.ld_unit_zero hz2 inb X
theorem ldS8x2880 {e : EltTy} (inb) (X : S8x2880.Idx → Elt F e) : View.ld X (Rect.unit (s := S8x2880) ![0, 0] ![8, 2880] inb) = X :=
  View.ld_unit_zero hz2 inb X
theorem ldS8x5760 {e : EltTy} (inb) (X : S8x5760.Idx → Elt F e) : View.ld X (Rect.unit (s := S8x5760) ![0, 0] ![8, 5760] inb) = X :=
  View.ld_unit_zero hz2 inb X
theorem ldS24x512 {e : EltTy} (inb) (X : S24x512.Idx → Elt F e) : View.ld X (Rect.unit (s := S24x512) ![0, 0] ![24, 512] inb) = X :=
  View.ld_unit_zero hz2 inb X
theorem rcS24x512 {κ : Kind} {sp : Space} {e : EltTy} (v : View sig κ sp S24x512 e) (inb) (w : S24x512.Idx → Elt F e) :
    v.readCov (Val := Elt F) [(⟨Rect.unit ![0, 0] ![24, 512] inb, w⟩ : View.Piece (Elt F) S24x512 e)] (Rect.unit ![0, 0] ![24, 512] inb).toLoadRect = w :=
  View.readCov_unit_zero v hz2 inb w

variable (c : Dev nD) (i : grid0.Coords)
  (arg2 : Memref sig .tc .vmem S1x2880x512 .fp8e4m3) (harg2 : arg2.IsWhole) (arg3 : Memref sig .tc .vmem S3x512 .f32) (harg3 : arg3.IsWhole)
  (arg4 : Memref sig .tc .vmem S1x512x5760 .fp8e5m2) (harg4 : arg4.IsWhole) (arg5 : Memref sig .tc .vmem S3x512 .f32) (harg5 : arg5.IsWhole)
  (arg6 : Memref sig .tc .vmem S480x5760 .fp8e4m3) (harg6 : arg6.IsWhole) (arg7 : Memref sig .tc .vmem S480x9 .f32) (harg7 : arg7.IsWhole)
  (arg8 : Memref sig .tc .vmem S8x2880 .bf16) (harg8 : arg8.IsWhole) (arg9 : Memref sig .tc .vmem S8x5760 .bf16) (harg9 : arg9.IsWhole)
  (arg10 : Memref sig .tc .vmem S1x480x512 .bf16) (harg10 : arg10.IsWhole) (arg11 : Memref sig .tc .vmem S8x2880 .f32) (harg11 : arg11.IsWhole)
  (arg12 : Memref sig .tc .vmem S8x5760 .f32) (harg12 : arg12.IsWhole) (arg13 : Memref sig .tc .vmem S1x8x512 .f32) (harg13 : arg13.IsWhole)
  (arg14 : Memref sig .tc .vmem S1x8x512 .f32) (harg14 : arg14.IsWhole) (arg15 : Memref sig .tc .vmem S24x512 .bf16) (harg15 : arg15.IsWhole)
  (x0 : Vec F S1x2880x512 .fp8e4m3) (x1 : Vec F S3x512 .f32) (x2 : Vec F S1x512x5760 .fp8e5m2) (x3 : Vec F S3x512 .f32)
  (x4 : Vec F S480x5760 .fp8e4m3) (x5 : Vec F S480x9 .f32) (x6 : Vec F S8x2880 .bf16) (x7 : Vec F S8x5760 .bf16)

set_option maxHeartbeats 1000000 in
/-- The first point: every output and the scratch are stored, the accumulators at the batch's parts. -/
theorem run_A (hc0 : cond0_0 i) (hc1 : cond0_1 i) (hc2 : ¬cond0_2 i) (E : Set ℕ) (K : PUnit → sProp 𝕄) :
    iprop(ins c arg2 arg3 arg4 arg5 arg6 arg7 arg8 arg9 x0 x1 x2 x3 x4 x5 x6 x7
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(ins c arg2 arg3 arg4 arg5 arg6 arg7 arg8 arg9 x0 x1 x2 x3 x4 x5 x6 x7
            ∗ owns (c : Thread nD τ) arg10 fullShare (dxVal i x2 x3 x4 x5 (t3Val i x2 x3 x7)) ∗ owns (c : Thread nD τ) arg11 fullShare (daVal i x0 x1 x2 x3 x7) ∗ owns (c : Thread nD τ) arg12 fullShare (dbVal i x0 x1 x2 x3 x6) ∗ owns (c : Thread nD τ) arg13 fullShare (tVal i x2 x3 x7) ∗ owns (c : Thread nD τ) arg14 fullShare (xaVal i x0 x1 x6) ∗ owns (c : Thread nD τ) arg15 fullShare (t3Val i x2 x3 x7)) -∗ K ⟨⟩))
      ⊢ wp frame (wpE (defs₀ (F := F)) Variants.none c none) E
          (cc0_lora_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_lora_bwd_eq_skeleton]; unfold cc0_lora_bwd_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d10, %f10, -, G10⟩, ⟨%d11, %f11, -, G11⟩, ⟨%d12, %f12, -, G12⟩, ⟨%d13, %f13, -, G13⟩, ⟨%d14, %f14, -, G14⟩, ⟨%d15, %f15, -, G15⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | sl_exact hc0 | sl_exact hc1 | sl_exact hc2)
  sl_step
  iapply Hk
  isplitl [H0 H1 H2 H3 H4 H5 H6 H7]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr; · ipureintro; exact harg9.read_unread _
    iexact H7
  isplitl [G10]
  · iexists _; isplitr
    swap; · iexact G10
    ipureintro
    sl_unfold_words
    rw [read_writes_whole _ _ hz3]
    simp only [View.readAt_eq_ld, harg2.read_unread, harg3.read_unread, harg4.read_unread, harg5.read_unread, harg6.read_unread, harg7.read_unread,
      harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
    first | done | rfl
  isplitl [G11]
  · iexists _; isplitr
    swap; · iexact G11
    ipureintro
    sl_unfold_words
    rw [read_writes_whole _ _ hz2]
    simp only [View.readAt_eq_ld, harg2.read_unread, harg3.read_unread, harg4.read_unread, harg5.read_unread, harg6.read_unread, harg7.read_unread,
      harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
    first | done | rfl
  isplitl [G12]
  · iexists _; isplitr
    swap; · iexact G12
    ipureintro
    sl_unfold_words
    rw [read_writes_whole _ _ hz2]
    simp only [View.readAt_eq_ld, harg2.read_unread, harg3.read_unread, harg4.read_unread, harg5.read_unread, harg6.read_unread, harg7.read_unread,
      harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
    first | done | rfl
  isplitl [G13]
  · iexists _; isplitr
    swap; · iexact G13
    ipureintro
    sl_unfold_words
    rw [read_writes_whole _ _ hz3]
    simp only [View.readAt_eq_ld, harg2.read_unread, harg3.read_unread, harg4.read_unread, harg5.read_unread, harg6.read_unread, harg7.read_unread,
      harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
    first | done | rfl
  isplitl [G14]
  · iexists _; isplitr
    swap; · iexact G14
    ipureintro
    sl_unfold_words
    rw [read_writes_whole _ _ hz3]
    simp only [View.readAt_eq_ld, harg2.read_unread, harg3.read_unread, harg4.read_unread, harg5.read_unread, harg6.read_unread, harg7.read_unread,
      harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
    first | done | rfl
  iexists _; isplitr
  swap; · iexact G15
  ipureintro
  sl_unfold_words
  rw [read_writes_whole _ _ hz2]
  simp only [View.readAt_eq_ld, harg2.read_unread, harg3.read_unread, harg4.read_unread, harg5.read_unread, harg6.read_unread, harg7.read_unread,
    harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
  first | done | rfl

set_option maxHeartbeats 1000000 in
/-- The first point of a later batch: every output and the scratch are stored, the accumulators at what they held plus the batch's parts. -/
theorem run_C (hc0 : cond0_0 i) (hc1 : ¬cond0_1 i) (hc2 : cond0_2 i) (y9 : Vec F S8x2880 .f32) (y10 : Vec F S8x5760 .f32) (E : Set ℕ) (K : PUnit → sProp 𝕄) :
    iprop(ins c arg2 arg3 arg4 arg5 arg6 arg7 arg8 arg9 x0 x1 x2 x3 x4 x5 x6 x7
        ∗ (∃ d, owns (c : Thread nD τ) arg10 fullShare d) ∗ owns (c : Thread nD τ) arg11 fullShare y9 ∗ owns (c : Thread nD τ) arg12 fullShare y10 ∗ (∃ d, owns (c : Thread nD τ) arg13 fullShare d) ∗ (∃ d, owns (c : Thread nD τ) arg14 fullShare d) ∗ (∃ d, owns (c : Thread nD τ) arg15 fullShare d)
        ∗ (iprop(ins c arg2 arg3 arg4 arg5 arg6 arg7 arg8 arg9 x0 x1 x2 x3 x4 x5 x6 x7
            ∗ owns (c : Thread nD τ) arg10 fullShare (dxVal i x2 x3 x4 x5 (t3Val i x2 x3 x7)) ∗ owns (c : Thread nD τ) arg11 fullShare (addf y9 (daVal i x0 x1 x2 x3 x7)) ∗ owns (c : Thread nD τ) arg12 fullShare (addf y10 (dbVal i x0 x1 x2 x3 x6)) ∗ owns (c : Thread nD τ) arg13 fullShare (tVal i x2 x3 x7) ∗ owns (c : Thread nD τ) arg14 fullShare (xaVal i x0 x1 x6) ∗ owns (c : Thread nD τ) arg15 fullShare (t3Val i x2 x3 x7)) -∗ K ⟨⟩))
      ⊢ wp frame (wpE (defs₀ (F := F)) Variants.none c none) E
          (cc0_lora_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_lora_bwd_eq_skeleton]; unfold cc0_lora_bwd_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d10, %f10, -, G10⟩, ⟨%f11, %hf11, G11⟩, ⟨%f12, %hf12, G12⟩, ⟨%d13, %f13, -, G13⟩, ⟨%d14, %f14, -, G14⟩, ⟨%d15, %f15, -, G15⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg11.eq_unread hf11
  obtain rfl := harg12.eq_unread hf12
  sl_exec (disch := first | sl_exact hc0 | sl_exact hc1 | sl_exact hc2)
  sl_step
  iapply Hk
  isplitl [H0 H1 H2 H3 H4 H5 H6 H7]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr; · ipureintro; exact harg9.read_unread _
    iexact H7
  isplitl [G10]
  · iexists _; isplitr
    swap; · iexact G10
    ipureintro
    sl_unfold_words
    rw [read_writes_whole _ _ hz3]
    simp only [View.readAt_eq_ld, harg2.read_unread, harg3.read_unread, harg4.read_unread, harg5.read_unread, harg6.read_unread, harg7.read_unread,
      harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
    first | done | rfl
  isplitl [G11]
  · iexists _; isplitr
    swap; · iexact G11
    ipureintro
    sl_unfold_words
    rw [read_writes_whole _ _ hz2]
    simp only [View.readAt_eq_ld, harg2.read_unread, harg3.read_unread, harg4.read_unread, harg5.read_unread, harg6.read_unread, harg7.read_unread,
      harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
    first | done | rfl
  isplitl [G12]
  · iexists _; isplitr
    swap; · iexact G12
    ipureintro
    sl_unfold_words
    rw [read_writes_whole _ _ hz2]
    simp only [View.readAt_eq_ld, harg2.read_unread, harg3.read_unread, harg4.read_unread, harg5.read_unread, harg6.read_unread, harg7.read_unread,
      harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
    first | done | rfl
  isplitl [G13]
  · iexists _; isplitr
    swap; · iexact G13
    ipureintro
    sl_unfold_words
    rw [read_writes_whole _ _ hz3]
    simp only [View.readAt_eq_ld, harg2.read_unread, harg3.read_unread, harg4.read_unread, harg5.read_unread, harg6.read_unread, harg7.read_unread,
      harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
    first | done | rfl
  isplitl [G14]
  · iexists _; isplitr
    swap; · iexact G14
    ipureintro
    sl_unfold_words
    rw [read_writes_whole _ _ hz3]
    simp only [View.readAt_eq_ld, harg2.read_unread, harg3.read_unread, harg4.read_unread, harg5.read_unread, harg6.read_unread, harg7.read_unread,
      harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
    first | done | rfl
  iexists _; isplitr
  swap; · iexact G15
  ipureintro
  sl_unfold_words
  rw [read_writes_whole _ _ hz2]
  simp only [View.readAt_eq_ld, harg2.read_unread, harg3.read_unread, harg4.read_unread, harg5.read_unread, harg6.read_unread, harg7.read_unread,
    harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
  first | done | rfl

set_option maxHeartbeats 1000000 in
/-- Any other point: the rows of `dx` are stored, from the scratch; the scratch and the other outputs stay as they were. -/
theorem run_B (hc0 : ¬cond0_0 i) (y9 : Vec F S8x2880 .f32) (y10 : Vec F S8x5760 .f32)
    (y11 y12 : Vec F S1x8x512 .f32) (s : Vec F S24x512 .bf16) (E : Set ℕ) (K : PUnit → sProp 𝕄) :
    iprop(ins c arg2 arg3 arg4 arg5 arg6 arg7 arg8 arg9 x0 x1 x2 x3 x4 x5 x6 x7
        ∗ (∃ d, owns (c : Thread nD τ) arg10 fullShare d) ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare s
        ∗ (iprop(ins c arg2 arg3 arg4 arg5 arg6 arg7 arg8 arg9 x0 x1 x2 x3 x4 x5 x6 x7
            ∗ owns (c : Thread nD τ) arg10 fullShare (dxVal i x2 x3 x4 x5 s) ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare s) -∗ K ⟨⟩))
      ⊢ wp frame (wpE (defs₀ (F := F)) Variants.none c none) E
          (cc0_lora_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_lora_bwd_eq_skeleton]; unfold cc0_lora_bwd_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d10, %f10, -, G10⟩, ⟨%f11, %hf11, G11⟩, ⟨%f12, %hf12, G12⟩, ⟨%f13, %hf13, G13⟩, ⟨%f14, %hf14, G14⟩, ⟨%f15, %hf15, G15⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg11.eq_unread hf11
  obtain rfl := harg12.eq_unread hf12
  obtain rfl := harg13.eq_unread hf13
  obtain rfl := harg14.eq_unread hf14
  obtain rfl := harg15.eq_unread hf15
  sl_exec (disch := first | sl_exact hc0)
  sl_step
  iapply Hk
  isplitl [H0 H1 H2 H3 H4 H5 H6 H7]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr; · ipureintro; exact harg9.read_unread _
    iexact H7
  isplitl [G10]
  · iexists _; isplitr
    swap; · iexact G10
    ipureintro
    sl_unfold_words
    rw [read_writes_whole _ _ hz3]
    simp only [View.readAt_eq_ld, harg2.read_unread, harg3.read_unread, harg4.read_unread, harg5.read_unread, harg6.read_unread, harg7.read_unread,
      harg8.read_unread, harg9.read_unread, harg11.read_unread, harg12.read_unread, harg15.read_unread, ldS480x5760, ldS1x512x5760, ldS1x2880x512, ldS480x9, ldS8x2880, ldS8x5760,
      ldS24x512, rcS24x512, k0_pay4, k0_pay5, shapeCast_self]
    first | done | rfl
  isplitl [G11]
  · iexists _; isplitr
    swap; · iexact G11
    ipureintro
    exact harg11.read_unread _
  isplitl [G12]
  · iexists _; isplitr
    swap; · iexact G12
    ipureintro
    exact harg12.read_unread _
  isplitl [G13]
  · iexists _; isplitr
    swap; · iexact G13
    ipureintro
    exact harg13.read_unread _
  isplitl [G14]
  · iexists _; isplitr
    swap; · iexact G14
    ipureintro
    exact harg14.read_unread _
  iexists _; isplitr
  swap; · iexact G15
  ipureintro
  exact harg15.read_unread _

end Cert.KernelIdeal.Gen

end
-- ==== Proof.KFrame.lean ====
/-
  What the kernel's buffers hold point by point, and its run: the inputs' blocks; the rows of `dx` of each point; each
  batch's `t` and `xa`; the sums over the batches so far of `dA` and `dB`; and, in the scratch, the batch's `2t`.
-/
module

public import proofs.«01_k».proof.Proof.KRun

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of batch `n`. -/
def pt (n : ℕ) : Fin cfg0.N := ⟨6 * (n % 3), by have : cfg0.N = 18 := N_0; omega⟩

theorem pt_eq (t : Fin cfg0.N) (h : t.val % 6 = 0) : pt (t.val / 6) = t := by
  have : cfg0.N = 18 := N_0
  apply Fin.ext; simp only [pt]; omega

/-! The values of a batch, from the blocks of its first point. -/
def tAt (c : Dev nD) (n : ℕ) : Vec F S1x8x512 .f32 :=
  tVal (grid0.coords (pt n)) (iblk m c 2 (pt n)) (iblk m c 3 (pt n)) (iblk m c 7 (pt n))
def xaAt (c : Dev nD) (n : ℕ) : Vec F S1x8x512 .f32 :=
  xaVal (grid0.coords (pt n)) (iblk m c 0 (pt n)) (iblk m c 1 (pt n)) (iblk m c 6 (pt n))
def t3At (c : Dev nD) (n : ℕ) : Vec F S24x512 .bf16 :=
  t3Val (grid0.coords (pt n)) (iblk m c 2 (pt n)) (iblk m c 3 (pt n)) (iblk m c 7 (pt n))
def daAt (c : Dev nD) (n : ℕ) : Vec F S8x2880 .f32 :=
  daVal (grid0.coords (pt n)) (iblk m c 0 (pt n)) (iblk m c 1 (pt n)) (iblk m c 2 (pt n)) (iblk m c 3 (pt n)) (iblk m c 7 (pt n))
def dbAt (c : Dev nD) (n : ℕ) : Vec F S8x5760 .f32 :=
  dbVal (grid0.coords (pt n)) (iblk m c 0 (pt n)) (iblk m c 1 (pt n)) (iblk m c 2 (pt n)) (iblk m c 3 (pt n)) (iblk m c 6 (pt n))
/-- The sums over the batches up to the `n`-th. -/
def accA (c : Dev nD) : ℕ → Vec F S8x2880 .f32
  | 0 => daAt m c 0
  | n + 1 => addf (accA c n) (daAt m c (n + 1))
def accB (c : Dev nD) : ℕ → Vec F S8x5760 .f32
  | 0 => dbAt m c 0
  | n + 1 => addf (accB c n) (dbAt m c (n + 1))
/-- The rows of `dx` a point stores. -/
def dxAt (c : Dev nD) (t : Fin cfg0.N) : Vec F S1x480x512 .bf16 :=
  dxVal (grid0.coords t) (iblk m c 2 t) (iblk m c 3 t) (iblk m c 4 t) (iblk m c 5 t) (t3At m c (t.val / 6))

/-- The invariant before position `n`: the scratch at anything before the first point, afterwards at the three pieces of
    the last batch's `2t`. -/
def PhiS (c : Dev nD) : (n : ℕ) → n ≤ cfg0.N → sProp 𝕄
  | 0, _ => Pipeline.ΦA spec0 c
  | n + 1, _ => iprop(iprop(owns (c : Thread nD τ) scM0_0 fullShare (t3At m c (n / 6))) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (t3At m c (n / 6))) ∗ (∃ r, prngReg c r)) := rfl
theorem PhiS_pos (c : Dev nD) (n : ℕ) (h : n ≤ cfg0.N) (hz : n ≠ 0) :
    PhiS m c n h = iprop(iprop(owns (c : Thread nD τ) scM0_0 fullShare (t3At m c ((n - 1) / 6))) ∗ (∃ r, prngReg c r)) := by
  cases n with
  | zero => exact absurd rfl hz
  | succ n => rfl

/-- What the pipeline's buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dxAt m c t
    | ⟨9, _⟩ => accA m c (t.val / 6)
    | ⟨10, _⟩ => accB m c (t.val / 6)
    | ⟨11, _⟩ => tAt m c (t.val / 6)
    | ⟨12, _⟩ => xaAt m c (t.val / 6)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dxAt m c t := by dsimp only [dats]
theorem after0_9 (c : Dev nD) (t : Fin cfg0.N) : (dats m 0 c).after 9 t = accA m c (t.val / 6) := by dsimp only [dats]
theorem after0_10 (c : Dev nD) (t : Fin cfg0.N) : (dats m 0 c).after 10 t = accB m c (t.val / 6) := by dsimp only [dats]
theorem after0_11 (c : Dev nD) (t : Fin cfg0.N) : (dats m 0 c).after 11 t = tAt m c (t.val / 6) := by dsimp only [dats]
theorem after0_12 (c : Dev nD) (t : Fin cfg0.N) : (dats m 0 c).after 12 t = xaAt m c (t.val / 6) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! What an output kept from the point before holds. -/
theorem hcarry_9 (c : Dev nD) (t : Fin cfg0.N) (hz : t.val ≠ 0) (hi : cfg0.idle 9 (cfg0.grid.coords t) = true)
    (_ : cfg0.fresh 9 t.val = false) : (dats m 0 c).after 9 t = (dats m 0 c).after 9 ⟨t.val - 1, by omega⟩ := by
  have hi' := (idle_9 t).symm.trans hi
  simp only [Bool.not_eq_true', decide_eq_false_iff_not] at hi'
  rw [after0_9, after0_9]; congr 1; dsimp only; omega
theorem hcarry_10 (c : Dev nD) (t : Fin cfg0.N) (hz : t.val ≠ 0) (hi : cfg0.idle 10 (cfg0.grid.coords t) = true)
    (_ : cfg0.fresh 10 t.val = false) : (dats m 0 c).after 10 t = (dats m 0 c).after 10 ⟨t.val - 1, by omega⟩ := by
  have hi' := (idle_10 t).symm.trans hi
  simp only [Bool.not_eq_true', decide_eq_false_iff_not] at hi'
  rw [after0_10, after0_10]; congr 1; dsimp only; omega
theorem hcarry_11 (c : Dev nD) (t : Fin cfg0.N) (hz : t.val ≠ 0) (hi : cfg0.idle 11 (cfg0.grid.coords t) = true)
    (_ : cfg0.fresh 11 t.val = false) : (dats m 0 c).after 11 t = (dats m 0 c).after 11 ⟨t.val - 1, by omega⟩ := by
  have hi' := (idle_11 t).symm.trans hi
  simp only [Bool.not_eq_true', decide_eq_false_iff_not] at hi'
  rw [after0_11, after0_11]; congr 1; dsimp only; omega
theorem hcarry_12 (c : Dev nD) (t : Fin cfg0.N) (hz : t.val ≠ 0) (hi : cfg0.idle 12 (cfg0.grid.coords t) = true)
    (_ : cfg0.fresh 12 t.val = false) : (dats m 0 c).after 12 t = (dats m 0 c).after 12 ⟨t.val - 1, by omega⟩ := by
  have hi' := (idle_12 t).symm.trans hi
  simp only [Bool.not_eq_true', decide_eq_false_iff_not] at hi'
  rw [after0_12, after0_12]; congr 1; dsimp only; omega
theorem before_9 (c : Dev nD) (t : Fin cfg0.N) (h : t.val ≠ 0) (d) :
    (dats m 0 c).before 9 t d = accA m c ((t.val - 1) / 6) := by
  have hN : cfg0.N = 18 := N_0
  rw [Dat.before_out_traj _ 9 rfl (fun _ _ => rfl) (hcarry_9 m c) t.val t rfl d, if_neg]
  · rw [after0_9]
  · rw [fresh_9 t, Bool.not_eq_true]
    obtain ⟨_ | n, hn⟩ := t
    · exact absurd rfl h
    · exact decide_eq_false (by omega)
theorem before_10 (c : Dev nD) (t : Fin cfg0.N) (h : t.val ≠ 0) (d) :
    (dats m 0 c).before 10 t d = accB m c ((t.val - 1) / 6) := by
  have hN : cfg0.N = 18 := N_0
  rw [Dat.before_out_traj _ 10 rfl (fun _ _ => rfl) (hcarry_10 m c) t.val t rfl d, if_neg]
  · rw [after0_10]
  · rw [fresh_10 t, Bool.not_eq_true]
    obtain ⟨_ | n, hn⟩ := t
    · exact absurd rfl h
    · exact decide_eq_false (by omega)
theorem before_11 (c : Dev nD) (t : Fin cfg0.N) (h : t.val % 6 ≠ 0) (d) :
    (dats m 0 c).before 11 t d = tAt m c ((t.val - 1) / 6) := by
  have hN : cfg0.N = 18 := N_0
  rw [Dat.before_out_traj _ 11 rfl (fun _ _ => rfl) (hcarry_11 m c) t.val t rfl d, if_neg]
  · rw [after0_11]
  · rw [fresh_11 t, Bool.not_eq_true]
    exact decide_eq_false h
theorem before_12 (c : Dev nD) (t : Fin cfg0.N) (h : t.val % 6 ≠ 0) (d) :
    (dats m 0 c).before 12 t d = xaAt m c ((t.val - 1) / 6) := by
  have hN : cfg0.N = 18 := N_0
  rw [Dat.before_out_traj _ 12 rfl (fun _ _ => rfl) (hcarry_12 m c) t.val t rfl d, if_neg]
  · rw [after0_12]
  · rw [fresh_12 t, Bool.not_eq_true]
    exact decide_eq_false h
/-- Where output 9 is not stored, its buffer is left at the point's contents. -/
theorem keeps_9 (c : Dev nD) (t : Fin cfg0.N) (h : ¬t.val % 6 = 0) :
    (owns (c : Thread nD τ) (ms0_9 t) fullShare (accA m c ((t.val - 1) / 6)) : sProp 𝕄) ⊢ (dats m 0 c).leavesExact 9 t := by
  have hi : cfg0.idle 9 (cfg0.grid.coords t) = true := (idle_9 t).trans (by simp [h])
  unfold Dat.leavesExact; rw [hi]
  cases hf : (cfg0.win 9).flush t
  · dsimp only
    iintro H; iexists (fun _ => Classical.arbitrary _)
    rw [before_9 m c t (fun h0 => h (by omega))]
    iexact H
  · dsimp only
    rw [after0_9, show t.val / 6 = (t.val - 1) / 6 by omega]
/-- Where it is stored, at the point's contents. -/
theorem stores_9 (c : Dev nD) (t : Fin cfg0.N) (h : t.val % 6 = 0) :
    (owns (c : Thread nD τ) (ms0_9 t) fullShare (accA m c (t.val / 6)) : sProp 𝕄) ⊢ (dats m 0 c).leavesExact 9 t := by
  have hi : cfg0.idle 9 (cfg0.grid.coords t) = false := (idle_9 t).trans (by simp [h])
  unfold Dat.leavesExact; rw [hi, after0_9]
/-- Where output 10 is not stored, its buffer is left at the point's contents. -/
theorem keeps_10 (c : Dev nD) (t : Fin cfg0.N) (h : ¬t.val % 6 = 0) :
    (owns (c : Thread nD τ) (ms0_10 t) fullShare (accB m c ((t.val - 1) / 6)) : sProp 𝕄) ⊢ (dats m 0 c).leavesExact 10 t := by
  have hi : cfg0.idle 10 (cfg0.grid.coords t) = true := (idle_10 t).trans (by simp [h])
  unfold Dat.leavesExact; rw [hi]
  cases hf : (cfg0.win 10).flush t
  · dsimp only
    iintro H; iexists (fun _ => Classical.arbitrary _)
    rw [before_10 m c t (fun h0 => h (by omega))]
    iexact H
  · dsimp only
    rw [after0_10, show t.val / 6 = (t.val - 1) / 6 by omega]
/-- Where it is stored, at the point's contents. -/
theorem stores_10 (c : Dev nD) (t : Fin cfg0.N) (h : t.val % 6 = 0) :
    (owns (c : Thread nD τ) (ms0_10 t) fullShare (accB m c (t.val / 6)) : sProp 𝕄) ⊢ (dats m 0 c).leavesExact 10 t := by
  have hi : cfg0.idle 10 (cfg0.grid.coords t) = false := (idle_10 t).trans (by simp [h])
  unfold Dat.leavesExact; rw [hi, after0_10]
/-- Where output 11 is not stored, its buffer is left at the point's contents. -/
theorem keeps_11 (c : Dev nD) (t : Fin cfg0.N) (h : ¬t.val % 6 = 0) :
    (owns (c : Thread nD τ) (ms0_11 t) fullShare (tAt m c ((t.val - 1) / 6)) : sProp 𝕄) ⊢ (dats m 0 c).leavesExact 11 t := by
  have hi : cfg0.idle 11 (cfg0.grid.coords t) = true := (idle_11 t).trans (by simp [h])
  unfold Dat.leavesExact; rw [hi]
  cases hf : (cfg0.win 11).flush t
  · dsimp only
    iintro H; iexists (fun _ => Classical.arbitrary _)
    rw [before_11 m c t h]
    iexact H
  · dsimp only
    rw [after0_11, show t.val / 6 = (t.val - 1) / 6 by omega]
/-- Where it is stored, at the point's contents. -/
theorem stores_11 (c : Dev nD) (t : Fin cfg0.N) (h : t.val % 6 = 0) :
    (owns (c : Thread nD τ) (ms0_11 t) fullShare (tAt m c (t.val / 6)) : sProp 𝕄) ⊢ (dats m 0 c).leavesExact 11 t := by
  have hi : cfg0.idle 11 (cfg0.grid.coords t) = false := (idle_11 t).trans (by simp [h])
  unfold Dat.leavesExact; rw [hi, after0_11]
/-- Where output 12 is not stored, its buffer is left at the point's contents. -/
theorem keeps_12 (c : Dev nD) (t : Fin cfg0.N) (h : ¬t.val % 6 = 0) :
    (owns (c : Thread nD τ) (ms0_12 t) fullShare (xaAt m c ((t.val - 1) / 6)) : sProp 𝕄) ⊢ (dats m 0 c).leavesExact 12 t := by
  have hi : cfg0.idle 12 (cfg0.grid.coords t) = true := (idle_12 t).trans (by simp [h])
  unfold Dat.leavesExact; rw [hi]
  cases hf : (cfg0.win 12).flush t
  · dsimp only
    iintro H; iexists (fun _ => Classical.arbitrary _)
    rw [before_12 m c t h]
    iexact H
  · dsimp only
    rw [after0_12, show t.val / 6 = (t.val - 1) / 6 by omega]
/-- Where it is stored, at the point's contents. -/
theorem stores_12 (c : Dev nD) (t : Fin cfg0.N) (h : t.val % 6 = 0) :
    (owns (c : Thread nD τ) (ms0_12 t) fullShare (xaAt m c (t.val / 6)) : sProp 𝕄) ⊢ (dats m 0 c).leavesExact 12 t := by
  have hi : cfg0.idle 12 (cfg0.grid.coords t) = false := (idle_12 t).trans (by simp [h])
  unfold Dat.leavesExact; rw [hi, after0_12]

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The body at any point runs to the point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 18 := lt_of_lt_of_eq t.isLt (show cfg0.N = 18 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases h0 : t.val % 6 = 0
  · have hp : pt (t.val / 6) = t := pt_eq t h0
    have e8 : dxVal (grid0.coords t) (iblk m c 2 t) (iblk m c 3 t) (iblk m c 4 t) (iblk m c 5 t)
        (t3Val (grid0.coords t) (iblk m c 2 t) (iblk m c 3 t) (iblk m c 7 t)) = dxAt m c t := by unfold dxAt t3At; rw [hp]
    have eS : t3Val (grid0.coords t) (iblk m c 2 t) (iblk m c 3 t) (iblk m c 7 t) = t3At m c (t.val / 6) := by unfold t3At; rw [hp]
    have e11 : tVal (grid0.coords t) (iblk m c 2 t) (iblk m c 3 t) (iblk m c 7 t) = tAt m c (t.val / 6) := by unfold tAt; rw [hp]
    have e12 : xaVal (grid0.coords t) (iblk m c 0 t) (iblk m c 1 t) (iblk m c 6 t) = xaAt m c (t.val / 6) := by unfold xaAt; rw [hp]
    have e9 : daVal (grid0.coords t) (iblk m c 0 t) (iblk m c 1 t) (iblk m c 2 t) (iblk m c 3 t) (iblk m c 7 t) = daAt m c (t.val / 6) := by
      unfold daAt; rw [hp]
    have e10 : dbVal (grid0.coords t) (iblk m c 0 t) (iblk m c 1 t) (iblk m c 2 t) (iblk m c 3 t) (iblk m c 6 t) = dbAt m c (t.val / 6) := by
      unfold dbAt; rw [hp]
    by_cases h1 : t.val < 6
    · have hz : t.val = 0 := by omega
      rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((hcond0_0 t).mpr h0) ((hcond0_1 t).mpr h1) (fun h => by have := (hcond0_2 t).mp h; omega) Set.univ _)
      isplitl [H0 H1 H2 H3 H4 H5 H6 H7]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      unfold ins
      iintro ⟨⟨H0, H1, H2, H3, H4, H5, H6, H7⟩, H8, H9, H10, H11, H12, HS0⟩
      isplitl [HS0 Hg]
      · isplitl [HS0]
        · rw [← eS]; iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · rw [← e8]; iexact H8
      isplitl [H9]
      · iapply (stores_9 m c t h0); rw [show accA m c (t.val / 6) = daAt m c (t.val / 6) by rw [show t.val / 6 = 0 by omega]; rfl, ← e9]; iexact H9
      isplitl [H10]
      · iapply (stores_10 m c t h0); rw [show accB m c (t.val / 6) = dbAt m c (t.val / 6) by rw [show t.val / 6 = 0 by omega]; rfl, ← e10]; iexact H10
      isplitl [H11]
      · iapply (stores_11 m c t h0); rw [← e11]; iexact H11
      iapply (stores_12 m c t h0); rw [← e12]; iexact H12
    · have hz : t.val ≠ 0 := by omega
      have eA : accA m c (t.val / 6) = addf (accA m c ((t.val - 1) / 6)) (daAt m c (t.val / 6)) := by
        obtain ⟨n, hn⟩ : ∃ n, t.val / 6 = n + 1 := ⟨t.val / 6 - 1, by omega⟩
        rw [hn, show (t.val - 1) / 6 = n by omega]; rfl
      have eB : accB m c (t.val / 6) = addf (accB m c ((t.val - 1) / 6)) (dbAt m c (t.val / 6)) := by
        obtain ⟨n, hn⟩ : ∃ n, t.val / 6 = n + 1 := ⟨t.val / 6 - 1, by omega⟩
        rw [hn, show (t.val - 1) / 6 = n by omega]; rfl
      rw [PhiS_castSucc m c t, PhiS_pos m c _ _ hz]
      simp only [before_9 m c t hz, before_10 m c t hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_C c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h)) ((hcond0_2 t).mpr (by omega)) _ _ Set.univ _)
      isplitl [H0 H1 H2 H3 H4 H5 H6 H7]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [H9]; · iexact H9
      isplitl [H10]; · iexact H10
      isplitl [H11]; · iexists _; iexact H11
      isplitl [H12]; · iexists _; iexact H12
      isplitl [HS0]; · iexists _; iexact HS0
      unfold ins
      iintro ⟨⟨H0, H1, H2, H3, H4, H5, H6, H7⟩, H8, H9, H10, H11, H12, HS0⟩
      isplitl [HS0 Hg]
      · isplitl [HS0]
        · rw [← eS]; iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · rw [← e8]; iexact H8
      isplitl [H9]
      · iapply (stores_9 m c t h0); rw [eA, ← e9]; iexact H9
      isplitl [H10]
      · iapply (stores_10 m c t h0); rw [eB, ← e10]; iexact H10
      isplitl [H11]
      · iapply (stores_11 m c t h0); rw [← e11]; iexact H11
      iapply (stores_12 m c t h0); rw [← e12]; iexact H12
  · have hz : t.val ≠ 0 := fun h => h0 (by omega)
    have e8 : dxVal (grid0.coords t) (iblk m c 2 t) (iblk m c 3 t) (iblk m c 4 t) (iblk m c 5 t) (t3At m c ((t.val - 1) / 6)) = dxAt m c t := by
      unfold dxAt; rw [show (t.val - 1) / 6 = t.val / 6 by omega]
    rw [PhiS_castSucc m c t, PhiS_pos m c _ _ hz]
    simp only [before_9 m c t hz, before_10 m c t hz, before_11 m c t h0, before_12 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_B c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((hcond0_0 t).mp h)) _ _ _ _ _ Set.univ _)
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexact H9
    isplitl [H10]; · iexact H10
    isplitl [H11]; · iexact H11
    isplitl [H12]; · iexact H12
    isplitl [HS0]; · iexact HS0
    unfold ins
    iintro ⟨⟨H0, H1, H2, H3, H4, H5, H6, H7⟩, H8, H9, H10, H11, H12, HS0⟩
    isplitl [HS0 Hg]
    · isplitl [HS0]
      · rw [show t.val / 6 = (t.val - 1) / 6 by omega]; iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · rw [← e8]; iexact H8
    isplitl [H9]
    · iapply (keeps_9 m c t h0); iexact H9
    isplitl [H10]
    · iapply (keeps_10 m c t h0); iexact H10
    isplitl [H11]
    · iapply (keeps_11 m c t h0); iexact H11
    iapply (keeps_12 m c t h0); iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 18 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments end unchanged and every counter at zero, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.KPay.lean ====
/-
  The values that the kernel stores, read at an index over the extended reals: the products with their sums written out,
  and the three-piece products reduced to plain ones where the factor split into pieces is finite.
-/
module

public import proofs.«01_k».proof.Proof.KSetup
public import Idealize.ShloMosaic.Lib.Pointwise

@[expose] public section

set_option maxRecDepth 16384

noncomputable section

namespace Cert.KernelIdeal.Gen

open Idealize.ShloMosaic

/-- An extended real that is a real number. -/
def IsReal (v : EReal) : Prop := ∃ r : ℝ, v = (r : EReal)

/-- A finite value less itself is zero. -/
theorem sub_self_coe (v : EReal) (hv : IsReal v) : v - v = 0 := by
  obtain ⟨r, rfl⟩ := hv
  rw [← EReal.coe_sub, sub_self, EReal.coe_zero]

/-- The constant 2. -/
def two : EReal := Ideal.ofBits .f32 0x40000000#32

/-- A sum of 24 terms is the sum of its three runs of 8. -/
theorem sum24 (f : Fin 24 → EReal) :
    ∑ q, f q = ∑ r : Fin 8, f ⟨r.val, by omega⟩ + ∑ r : Fin 8, f ⟨8 + r.val, by omega⟩ + ∑ r : Fin 8, f ⟨16 + r.val, by omega⟩ := by
  simp only [Fin.sum_univ_succ, Fin.sum_univ_zero, add_zero]
  simp only [add_assoc]
  rfl

/-- `t` of a batch. -/
theorem pay9_apply (rw_ : Vec Ideal S1x512 .f32) (dy : Vec Ideal S1x512x5760 .fp8e5m2) (b : Vec Ideal S8x5760 .bf16) (r : Fin 8) (s : Fin 512) :
    k0_pay9 rw_ dy b (ix2 r s) = (∑ n : Fin 5760, b (ix2 r n) * dy (ix3 0 s n)) * rw_ (ix2 0 s) := by
  pointwise [k0_pay9, k0_pay7]

/-- `xa` of a batch. -/
theorem pay10_apply (rw_ : Vec Ideal S1x512 .f32) (x : Vec Ideal S1x2880x512 .fp8e4m3) (a : Vec Ideal S8x2880 .bf16) (r : Fin 8) (s : Fin 512) :
    k0_pay10 rw_ x a (ix2 r s) = (∑ k : Fin 2880, a (ix2 r k) * x (ix3 0 k s)) * rw_ (ix2 0 s) := by
  pointwise [k0_pay10, k0_pay8]

/-- `dA` of a batch: the product with the three pieces of `x_scale · t` is the product with it. -/
theorem pay2_apply (rw_ : Vec Ideal S1x512 .f32) (x : FVec Ideal S2880x512 .bf16) (t : FVec Ideal S8x512 .f32) (r : Fin 8) (k : Fin 2880)
    (h : ∀ s : Fin 512, IsReal (rw_ (ix2 0 s) * t (ix2 r s))) :
    k0_pay2 rw_ x t (ix2 r k) = two * ∑ s : Fin 512, rw_ (ix2 0 s) * t (ix2 r s) * x (ix2 k s) := by
  pointwise [k0_pay2]
  have h1 : ¬ (16 + r.val < 8) := by omega
  have h2 : ¬ (16 + r.val - 8 < 8) := by omega
  have e : (⟨16 + r.val - 8 - 8, by omega⟩ : Fin 8) = r := Fin.ext (by simp only []; omega)
  simp only [dif_neg h1, dif_neg h2, e, sub_self_coe _ (h _), sub_zero, zero_mul, Finset.sum_const_zero, add_zero]
  rfl

/-- `dB` of a batch: the product with the three pieces of `xa · dy_scale` is the product with it. -/
theorem pay3_apply (rw_ : Vec Ideal S1x512 .f32) (dy : FVec Ideal S512x5760 .bf16) (xa : FVec Ideal S8x512 .f32) (r : Fin 8) (n : Fin 5760)
    (h : ∀ s : Fin 512, IsReal (xa (ix2 r s) * rw_ (ix2 0 s))) :
    k0_pay3 rw_ dy xa (ix2 r n) = two * ∑ s : Fin 512, xa (ix2 r s) * rw_ (ix2 0 s) * dy (ix2 s n) := by
  pointwise [k0_pay3]
  have h1 : ¬ (16 + r.val < 8) := by omega
  have h2 : ¬ (16 + r.val - 8 < 8) := by omega
  have e : (⟨16 + r.val - 8 - 8, by omega⟩ : Fin 8) = r := Fin.ext (by simp only []; omega)
  simp only [dif_neg h1, dif_neg h2, e, sub_self_coe _ (h _), sub_zero, zero_mul, Finset.sum_const_zero, add_zero]
  rfl

/-- The first eight rows of the three pieces of `2t` are `2t` … -/
theorem pay13_hi (rw_ : Vec Ideal S1x512 .f32) (dy : Vec Ideal S1x512x5760 .fp8e5m2) (b : Vec Ideal S8x5760 .bf16) (r : Fin 8) (s : Fin 512) :
    k0_pay13 rw_ dy b (ix2 ⟨r.val, by omega⟩ s) = two * k0_pay9 rw_ dy b (ix2 r s) := by
  pointwise [k0_pay13]
  rfl
/-- … and the other sixteen are zero. -/
theorem pay13_mid (rw_ : Vec Ideal S1x512 .f32) (dy : Vec Ideal S1x512x5760 .fp8e5m2) (b : Vec Ideal S8x5760 .bf16) (r : Fin 8) (s : Fin 512)
    (h : IsReal (two * k0_pay9 rw_ dy b (ix2 r s))) :
    k0_pay13 rw_ dy b (ix2 ⟨8 + r.val, by omega⟩ s) = 0 := by
  pointwise [k0_pay13]
  exact sub_self_coe _ h
theorem pay13_lo (rw_ : Vec Ideal S1x512 .f32) (dy : Vec Ideal S1x512x5760 .fp8e5m2) (b : Vec Ideal S8x5760 .bf16) (r : Fin 8) (s : Fin 512)
    (h : IsReal (two * k0_pay9 rw_ dy b (ix2 r s))) :
    k0_pay13 rw_ dy b (ix2 ⟨16 + r.val, by omega⟩ s) = 0 := by
  pointwise [k0_pay13]
  have h1 : ¬ (16 + r.val < 8) := by omega
  have h2 : ¬ (16 + r.val - 8 < 8) := by omega
  have e : (⟨16 + r.val - 8 - 8, by omega⟩ : Fin 8) = r := Fin.ext (by simp only []; omega)
  have hz : two * k0_pay9 rw_ dy b (ix2 r s) - two * k0_pay9 rw_ dy b (ix2 r s) = 0 := sub_self_coe _ h
  simp only [dif_neg h1, dif_neg h2, e]
  unfold two at hz
  rw [hz, sub_zero]

/-- A point's rows of `dx`, whatever the scratch holds. -/
theorem pay6_raw (w : Vec Ideal S480x5760 .fp8e4m3) (dy : Vec Ideal S1x512x5760 .fp8e5m2) (rw_ : Vec Ideal S1x512 .f32) (wc : Vec Ideal S480x9 .f32)
    (t3 : FVec Ideal S24x512 .bf16) (k : Fin 480) (s : Fin 512) :
    k0_pay6 w dy rw_ wc t3 (ix3 0 k s)
      = (∑ n : Fin 5760, w (ix2 k n) * dy (ix3 0 s n)) * (wc (ix2 k 0) * rw_ (ix2 0 s))
        + (∑ r : Fin 8, wc (ix2 k ⟨1 + r.val, by omega⟩) * t3 (ix2 ⟨r.val, by omega⟩ s)
          + ∑ r : Fin 8, wc (ix2 k ⟨1 + r.val, by omega⟩) * t3 (ix2 ⟨8 + r.val, by omega⟩ s)
          + ∑ r : Fin 8, wc (ix2 k ⟨1 + r.val, by omega⟩) * t3 (ix2 ⟨16 + r.val, by omega⟩ s)) := by
  pointwise [k0_pay6]
  have add_congr : ∀ {a b a' b' : EReal}, a = a' → b = b' → a + b = a' + b' := by rintro _ _ _ _ rfl rfl; rfl
  refine add_congr rfl ?_
  rw [sum24]
  refine add_congr (add_congr ?_ ?_) ?_
  · exact Finset.sum_congr rfl fun r _ => by simp only [dif_pos r.isLt]
  · refine Finset.sum_congr rfl fun r _ => ?_
    have h1 : ¬ (8 + r.val < 8) := by omega
    have h2 : 8 + r.val - 8 < 8 := by omega
    have e : (⟨1 + (8 + r.val - 8), by omega⟩ : Fin 9) = ⟨1 + r.val, by omega⟩ := Fin.ext (by simp only []; omega)
    simp only [dif_neg h1, dif_pos h2, e]
  · refine Finset.sum_congr rfl fun r _ => ?_
    have h1 : ¬ (16 + r.val < 8) := by omega
    have h2 : ¬ (16 + r.val - 8 < 8) := by omega
    have e : (⟨1 + (16 + r.val - 8 - 8), by omega⟩ : Fin 9) = ⟨1 + r.val, by omega⟩ := Fin.ext (by simp only []; omega)
    simp only [dif_neg h1, dif_neg h2, e]

/-- A point's rows of `dx`, the scratch holding the three pieces of `2t`. -/
theorem pay6_apply (w : Vec Ideal S480x5760 .fp8e4m3) (dy : Vec Ideal S1x512x5760 .fp8e5m2) (rw_ : Vec Ideal S1x512 .f32) (wc : Vec Ideal S480x9 .f32)
    (rw' : Vec Ideal S1x512 .f32) (dy' : Vec Ideal S1x512x5760 .fp8e5m2) (b : Vec Ideal S8x5760 .bf16) (k : Fin 480) (s : Fin 512)
    (h : ∀ r : Fin 8, IsReal (two * k0_pay9 rw' dy' b (ix2 r s))) :
    k0_pay6 w dy rw_ wc (k0_pay1 (k0_pay13 rw' dy' b)) (ix3 0 k s)
      = (∑ n : Fin 5760, w (ix2 k n) * dy (ix3 0 s n)) * (wc (ix2 k 0) * rw_ (ix2 0 s))
        + ∑ r : Fin 8, wc (ix2 k ⟨1 + r.val, by omega⟩) * (two * k0_pay9 rw' dy' b (ix2 r s)) := by
  have e1 : k0_pay1 (k0_pay13 rw' dy' b) = k0_pay13 rw' dy' b := by
    funext j; pointwise [k0_pay1]
  rw [e1, pay6_raw]
  simp only [pay13_hi, pay13_mid _ _ _ _ _ (h _), pay13_lo _ _ _ _ _ (h _), mul_zero, Finset.sum_const_zero, add_zero]

end Cert.KernelIdeal.Gen

end
-- ==== Proof.KBlocks.lean ====
module

public import proofs.«01_k».proof.Proof.KFrame
public import proofs.«01_k».proof.Proof.KPay
public import Idealize.ShloMosaic.Lib.Pipeline.ValueKit
public import Idealize.ShloMosaic.Lib.Pipeline.ValueKit.Point
public import Idealize.ShloMosaic.Lib.Claim
public import Idealize.ShloMosaic.Lib.StableHlo.ReadAt

@[expose] public section

set_option maxRecDepth 16384

noncomputable section

namespace Cert.KernelIdeal.Gen

open Idealize.ShloMosaic Idealize.ShloMosaic.TcCoe
open Idealize.ShloMosaic.Pipeline (Dat Cfg Window BodyObligation cellOf)

variable (m : (ℓ : Loc nD τ sig) → Buf (Elt Ideal) ℓ)

/-- The activations as extended reals: batch `b`, sequence position `s`, input feature `k`. -/
def eX (c : Dev nD) (b : Fin 3) (s : Fin 512) (k : Fin 2880) : EReal := Ideal.ofBits .fp8e4m3 (m (c.tc.loc main_arg0) (ix3 b s k))
/-- The activation scale of a row. -/
def eXS (c : Dev nD) (b : Fin 3) (s : Fin 512) : EReal := m (c.tc.loc main_arg1) (ix2 b s)
/-- The output gradients as extended reals: batch `b`, sequence position `s`, output feature `n`. -/
def eDY (c : Dev nD) (b : Fin 3) (s : Fin 512) (n : Fin 5760) : EReal := Ideal.ofBits .fp8e5m2 (m (c.tc.loc main_arg2) (ix3 b s n))
/-- The gradient scale of a row. -/
def eDS (c : Dev nD) (b : Fin 3) (s : Fin 512) : EReal := m (c.tc.loc main_arg3) (ix2 b s)
/-- The frozen weight. -/
def eW (c : Dev nD) (k : Fin 2880) (n : Fin 5760) : EReal := m (c.tc.loc main_arg4) (ix2 k n)
/-- The scale of a weight row. -/
def eWS (c : Dev nD) (k : Fin 2880) : EReal := m (c.tc.loc main_arg5) (ix1 k)
/-- The first adapter factor. -/
def eA (c : Dev nD) (k : Fin 2880) (r : Fin 8) : EReal := m (c.tc.loc main_arg6) (ix2 k r)
/-- The second adapter factor. -/
def eB (c : Dev nD) (r : Fin 8) (n : Fin 5760) : EReal := m (c.tc.loc main_arg7) (ix2 r n)

theorem V2_apply (c : Dev nD) (b : Fin 3) (k : Fin 2880) (s : Fin 512) :
    V m c main_v2 (ix3 b k s) = eX m c b s k := by
  unfold eX; entry_read; after_reads_at
theorem V1_apply (c : Dev nD) (b : Fin 3) (s : Fin 512) (n : Fin 5760) :
    V m c main_v1 (ix3 b s n) = eDY m c b s n := by
  unfold eDY; entry_read; after_reads_at
theorem V3_apply (c : Dev nD) (r : Fin 8) (k : Fin 2880) :
    V m c main_v3 (ix2 r k) = eA m c k r := by
  unfold eA; entry_read; after_reads_at
theorem V6_scale (c : Dev nD) (k : Fin 2880) :
    V m c main_v6 (ix2 k (0 : Fin 9)) = eWS m c k := by
  unfold eWS; entry_read; after_reads_at
theorem V6_lora (c : Dev nD) (k : Fin 2880) (r : Fin 8) (h : 1 + r.val < 9) :
    V m c main_v6 (ix2 k (⟨1 + r.val, h⟩ : Fin 9)) = eA m c k r := by
  unfold eA; entry_read; after_reads_at

theorem t_lt (t : Fin cfg0.N) : t.val < 18 := lt_of_lt_of_eq t.isLt N_0

/-- The batch that point `t` works on. -/
def bat (t : Fin cfg0.N) : Fin 3 := ⟨t.val / 6, by have := t_lt t; omega⟩
/-- Row `k` of the block of 480 input features that point `t` works on. -/
def blkRow (t : Fin cfg0.N) (k : Fin 480) : Fin 2880 := ⟨t.val % 6 * 480 + k.val, by have := k.isLt; omega⟩

theorem idx0 : ∀ t : Fin cfg0.N, win0_0.index t = ![t.val / 6, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 6, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val % 6, 0] := (by decide +kernel : ∀ t : Fin grid0.N, _)
theorem idx5 : ∀ t : Fin cfg0.N, win0_5.index t = ![t.val % 6, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 6, t.val % 6, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val / 6, 0, 0] := (by decide +kernel : ∀ t : Fin grid0.N, _)
theorem idx12 : ∀ t : Fin cfg0.N, win0_12.index t = ![t.val / 6, 0, 0] := (by decide +kernel : ∀ t : Fin grid0.N, _)
theorem off2 : ∀ t : Fin cfg0.N, k0_off2 (cfg0.grid.coords t) = ![t.val / 6, 0] := (by decide +kernel : ∀ t : Fin grid0.N, _)

theorem iblk0_apply (c : Dev nD) (t : Fin cfg0.N) (k : Fin 2880) (s : Fin 512) :
    iblk m c 0 t (ix3 (0 : Fin 1) k s) = V m c main_v2 (ix3 (bat t) k s) := by
  unfold bat
  blk_ext! [iblk, idx0 t]
theorem iblk1_apply (c : Dev nD) (t : Fin cfg0.N) (b : Fin 3) (s : Fin 512) :
    iblk m c 1 t (ix2 b s) = V m c main_arg1 (ix2 b s) := by
  blk_ext! [iblk, idx1 t]
theorem iblk2_apply (c : Dev nD) (t : Fin cfg0.N) (s : Fin 512) (n : Fin 5760) :
    iblk m c 2 t (ix3 (0 : Fin 1) s n) = V m c main_v1 (ix3 (bat t) s n) := by
  unfold bat
  blk_ext! [iblk, idx2 t]
theorem iblk3_apply (c : Dev nD) (t : Fin cfg0.N) (b : Fin 3) (s : Fin 512) :
    iblk m c 3 t (ix2 b s) = V m c main_arg3 (ix2 b s) := by
  blk_ext! [iblk, idx3 t]
theorem iblk4_apply (c : Dev nD) (t : Fin cfg0.N) (k : Fin 480) (n : Fin 5760) :
    iblk m c 4 t (ix2 k n) = V m c main_arg4 (ix2 (blkRow t k) n) := by
  unfold blkRow
  blk_ext! [iblk, idx4 t]
theorem iblk5_apply (c : Dev nD) (t : Fin cfg0.N) (k : Fin 480) (j : Fin 9) :
    iblk m c 5 t (ix2 k j) = V m c main_v6 (ix2 (blkRow t k) j) := by
  unfold blkRow
  blk_ext! [iblk, idx5 t]
theorem iblk6_apply (c : Dev nD) (t : Fin cfg0.N) (r : Fin 8) (k : Fin 2880) :
    iblk m c 6 t (ix2 r k) = V m c main_v3 (ix2 r k) := by
  blk_ext! [iblk, idx6 t]
theorem iblk7_apply (c : Dev nD) (t : Fin cfg0.N) (r : Fin 8) (n : Fin 5760) :
    iblk m c 7 t (ix2 r n) = V m c main_arg7 (ix2 r n) := by
  blk_ext! [iblk, idx7 t]

/-- The row of scales that a point takes out of a 3×512 array is that of its batch. -/
theorem row_apply (t : Fin cfg0.N) (x : Vec Ideal S3x512 .f32) (s : Fin 512) :
    row (cfg0.grid.coords t) x (ix2 (0 : Fin 1) s) = x (ix2 (bat t) s) := by
  unfold row bat
  rw [View.ld_apply]
  congr 1
  funext a
  apply Fin.ext
  have h := off2 t
  match a with
  | ⟨0, _⟩ => show k0_off2 (cfg0.grid.coords t) 0 + 1 * 0 = t.val / 6; rw [h]; simp
  | ⟨1, _⟩ => show k0_off2 (cfg0.grid.coords t) 1 + 1 * s.val = s.val; rw [h]; simp

end Cert.KernelIdeal.Gen

end
-- ==== Proof.KValue.lean ====
module

public import proofs.«01_k».proof.Proof.KBlocks

@[expose] public section

set_option maxRecDepth 16384

noncomputable section

namespace Cert.KernelIdeal.Gen

open Idealize.ShloMosaic Idealize.ShloMosaic.TcCoe
open Idealize.ShloMosaic.Pipeline (Dat Cfg Window BodyObligation cellOf)

variable (m : (ℓ : Loc nD τ sig) → Buf (Elt Ideal) ℓ)

/-! ## The results as formulas over the arguments -/

/-- The scaled product of the gradients with the second adapter factor. -/
def fT (c : Dev nD) (b : Fin 3) (r : Fin 8) (s : Fin 512) : EReal := (∑ n : Fin 5760, eB m c r n * eDY m c b s n) * eDS m c b s
/-- The scaled product of the activations with the first adapter factor. -/
def fXA (c : Dev nD) (b : Fin 3) (r : Fin 8) (s : Fin 512) : EReal := (∑ k : Fin 2880, eA m c k r * eX m c b s k) * eXS m c b s
/-- A batch's part of the first factor's gradient. -/
def fDA (c : Dev nD) (b : Fin 3) (r : Fin 8) (k : Fin 2880) : EReal := two * ∑ s : Fin 512, eXS m c b s * fT m c b r s * eX m c b s k
/-- A batch's part of the second factor's gradient. -/
def fDB (c : Dev nD) (b : Fin 3) (r : Fin 8) (n : Fin 5760) : EReal := two * ∑ s : Fin 512, fXA m c b r s * eDS m c b s * eDY m c b s n
/-- The gradient of the activations. -/
def fDX (c : Dev nD) (b : Fin 3) (s : Fin 512) (k : Fin 2880) : EReal :=
  (∑ n : Fin 5760, eW m c k n * eDY m c b s n) * (eWS m c k * eDS m c b s) + ∑ r : Fin 8, eA m c k r * (two * fT m c b r s)

/-- Every argument but the frozen weight and its scale holds real numbers. -/
structure Reals (c : Dev nD) : Prop where
  x : ∀ b s k, IsReal (eX m c b s k)
  xs : ∀ b s, IsReal (eXS m c b s)
  dy : ∀ b s n, IsReal (eDY m c b s n)
  ds : ∀ b s, IsReal (eDS m c b s)
  a : ∀ k r, IsReal (eA m c k r)
  b : ∀ r n, IsReal (eB m c r n)

theorem IsReal.mul {u v : EReal} (hu : IsReal u) (hv : IsReal v) : IsReal (u * v) := by
  obtain ⟨a, rfl⟩ := hu; obtain ⟨b, rfl⟩ := hv; exact ⟨a * b, (EReal.coe_mul a b).symm⟩
theorem IsReal.add {u v : EReal} (hu : IsReal u) (hv : IsReal v) : IsReal (u + v) := by
  obtain ⟨a, rfl⟩ := hu; obtain ⟨b, rfl⟩ := hv; exact ⟨a + b, (EReal.coe_add a b).symm⟩
theorem IsReal.sum {ι : Type} (S : Finset ι) (f : ι → EReal) (h : ∀ i, IsReal (f i)) : IsReal (∑ i ∈ S, f i) := by
  classical
  induction S using Finset.induction_on with
  | empty => exact ⟨0, by simp⟩
  | insert a S ha ih => rw [Finset.sum_insert ha]; exact (h a).add ih
theorem two_real : IsReal two := ⟨_, by unfold two; simp [Ideal.ofBits, Ideal.ieee]; rfl⟩

variable {m} in
theorem Reals.t {c : Dev nD} (h : Reals m c) (b : Fin 3) (r : Fin 8) (s : Fin 512) : IsReal (fT m c b r s) :=
  (IsReal.sum _ _ fun n => (h.b r n).mul (h.dy b s n)).mul (h.ds b s)
variable {m} in
theorem Reals.xa {c : Dev nD} (h : Reals m c) (b : Fin 3) (r : Fin 8) (s : Fin 512) : IsReal (fXA m c b r s) :=
  (IsReal.sum _ _ fun k => (h.a k r).mul (h.x b s k)).mul (h.xs b s)

/-! ## What the body leaves, at an index -/

theorem rowXS (c : Dev nD) (t : Fin cfg0.N) (s : Fin 512) :
    row (cfg0.grid.coords t) (iblk m c 1 t) (ix2 (0 : Fin 1) s) = eXS m c (bat t) s :=
  (row_apply t _ s).trans ((iblk1_apply m c t _ s).trans (congrFun (V_main_arg1 m c) _))
theorem rowDS (c : Dev nD) (t : Fin cfg0.N) (s : Fin 512) :
    row (cfg0.grid.coords t) (iblk m c 3 t) (ix2 (0 : Fin 1) s) = eDS m c (bat t) s :=
  (row_apply t _ s).trans ((iblk3_apply m c t _ s).trans (congrFun (V_main_arg3 m c) _))
theorem blkX (c : Dev nD) (t : Fin cfg0.N) (k : Fin 2880) (s : Fin 512) :
    iblk m c 0 t (ix3 (0 : Fin 1) k s) = eX m c (bat t) s k := (iblk0_apply m c t k s).trans (V2_apply m c _ k s)
theorem blkDY (c : Dev nD) (t : Fin cfg0.N) (s : Fin 512) (n : Fin 5760) :
    iblk m c 2 t (ix3 (0 : Fin 1) s n) = eDY m c (bat t) s n := (iblk2_apply m c t s n).trans (V1_apply m c _ s n)
theorem blkA (c : Dev nD) (t : Fin cfg0.N) (r : Fin 8) (k : Fin 2880) :
    iblk m c 6 t (ix2 r k) = eA m c k r := (iblk6_apply m c t r k).trans (V3_apply m c r k)
theorem blkB (c : Dev nD) (t : Fin cfg0.N) (r : Fin 8) (n : Fin 5760) :
    iblk m c 7 t (ix2 r n) = eB m c r n := (iblk7_apply m c t r n).trans (congrFun (V_main_arg7 m c) _)
theorem blkW (c : Dev nD) (t : Fin cfg0.N) (k : Fin 480) (n : Fin 5760) :
    iblk m c 4 t (ix2 k n) = eW m c (blkRow t k) n := (iblk4_apply m c t k n).trans (congrFun (V_main_arg4 m c) _)
theorem blkWS (c : Dev nD) (t : Fin cfg0.N) (k : Fin 480) :
    iblk m c 5 t (ix2 k (0 : Fin 9)) = eWS m c (blkRow t k) := (iblk5_apply m c t k _).trans (V6_scale m c _)
theorem blkWA (c : Dev nD) (t : Fin cfg0.N) (k : Fin 480) (r : Fin 8) (h : 1 + r.val < 9) :
    iblk m c 5 t (ix2 k (⟨1 + r.val, h⟩ : Fin 9)) = eA m c (blkRow t k) r := (iblk5_apply m c t k _).trans (V6_lora m c _ r h)

theorem pay9_at (c : Dev nD) (t : Fin cfg0.N) (r : Fin 8) (s : Fin 512) :
    k0_pay9 (row (cfg0.grid.coords t) (iblk m c 3 t)) (iblk m c 2 t) (iblk m c 7 t) (ix2 r s) = fT m c (bat t) r s := by
  refine (pay9_apply _ _ _ r s).trans ?_
  unfold fT
  rw [rowDS]
  exact congrArg (· * _) (Finset.sum_congr rfl fun n _ => congrArg₂ (· * ·) (blkB m c t r n) (blkDY m c t s n))
theorem pay10_at (c : Dev nD) (t : Fin cfg0.N) (r : Fin 8) (s : Fin 512) :
    k0_pay10 (row (cfg0.grid.coords t) (iblk m c 1 t)) (iblk m c 0 t) (iblk m c 6 t) (ix2 r s) = fXA m c (bat t) r s := by
  refine (pay10_apply _ _ _ r s).trans ?_
  unfold fXA
  rw [rowXS]
  exact congrArg (· * _) (Finset.sum_congr rfl fun n _ => congrArg₂ (· * ·) (blkA m c t r n) (blkX m c t n s))

theorem tAt_apply (c : Dev nD) (n : ℕ) (r : Fin 8) (s : Fin 512) :
    tAt m c n (ix3 (0 : Fin 1) r s) = fT m c (bat (pt n)) r s := by
  refine Eq.trans ?_ (pay9_at m c (pt n) r s)
  unfold tAt tVal
  pointwise [k0_pay11]
theorem xaAt_apply (c : Dev nD) (n : ℕ) (r : Fin 8) (s : Fin 512) :
    xaAt m c n (ix3 (0 : Fin 1) r s) = fXA m c (bat (pt n)) r s := by
  refine Eq.trans ?_ (pay10_at m c (pt n) r s)
  unfold xaAt xaVal
  pointwise [k0_pay12]

theorem daAt_apply (c : Dev nD) (hR : Reals m c) (n : ℕ) (r : Fin 8) (k : Fin 2880) :
    daAt m c n (ix2 r k) = fDA m c (bat (pt n)) r k := by
  unfold daAt daVal
  have e : ∀ s, (row (cfg0.grid.coords (pt n)) (iblk m c 1 (pt n)) (ix2 0 s) : EReal)
      * k0_pay9 (row (cfg0.grid.coords (pt n)) (iblk m c 3 (pt n))) (iblk m c 2 (pt n)) (iblk m c 7 (pt n)) (ix2 r s)
      = eXS m c (bat (pt n)) s * fT m c (bat (pt n)) r s := fun s =>
    congrArg₂ (· * ·) (rowXS m c (pt n) s) (pay9_at m c (pt n) r s)
  refine (pay2_apply _ _ _ r k fun s => (e s).symm ▸ (hR.xs _ s).mul (hR.t _ r s)).trans ?_
  unfold fDA
  refine congrArg (two * ·) (Finset.sum_congr rfl fun s _ => congrArg₂ (· * ·) (e s) ?_)
  refine Eq.trans ?_ (blkX m c (pt n) k s)
  pointwise [k0_pay8]
theorem dbAt_apply (c : Dev nD) (hR : Reals m c) (n : ℕ) (r : Fin 8) (j : Fin 5760) :
    dbAt m c n (ix2 r j) = fDB m c (bat (pt n)) r j := by
  unfold dbAt dbVal
  have e : ∀ s, (k0_pay10 (row (cfg0.grid.coords (pt n)) (iblk m c 1 (pt n))) (iblk m c 0 (pt n)) (iblk m c 6 (pt n)) (ix2 r s) : EReal)
      * row (cfg0.grid.coords (pt n)) (iblk m c 3 (pt n)) (ix2 0 s)
      = fXA m c (bat (pt n)) r s * eDS m c (bat (pt n)) s := fun s =>
    congrArg₂ (· * ·) (pay10_at m c (pt n) r s) (rowDS m c (pt n) s)
  refine (pay3_apply _ _ _ r j fun s => (e s).symm ▸ (hR.xa _ r s).mul (hR.ds _ s)).trans ?_
  unfold fDB
  refine congrArg (two * ·) (Finset.sum_congr rfl fun s _ => congrArg₂ (· * ·) (e s) ?_)
  refine Eq.trans ?_ (blkDY m c (pt n) s j)
  pointwise [k0_pay7]

theorem bat_pt (t : Fin cfg0.N) : bat (pt (t.val / 6)) = bat t := by
  have := t_lt t
  apply Fin.ext; simp only [bat, pt]; omega

theorem dxAt_apply (c : Dev nD) (hR : Reals m c) (t : Fin cfg0.N) (k : Fin 480) (s : Fin 512) :
    dxAt m c t (ix3 (0 : Fin 1) k s) = fDX m c (bat t) s (blkRow t k) := by
  unfold dxAt dxVal t3At t3Val
  have e : ∀ r, (k0_pay9 (row (cfg0.grid.coords (pt (t.val / 6))) (iblk m c 3 (pt (t.val / 6)))) (iblk m c 2 (pt (t.val / 6)))
      (iblk m c 7 (pt (t.val / 6))) (ix2 r s) : EReal) = fT m c (bat t) r s := fun r =>
    (pay9_at m c _ r s).trans (by rw [bat_pt])
  refine (pay6_apply _ _ _ _ _ _ _ k s fun r => (e r).symm ▸ two_real.mul (hR.t _ r s)).trans ?_
  unfold fDX
  refine congrArg₂ (· + ·) (congrArg₂ (· * ·) (Finset.sum_congr rfl fun n _ => ?_) ?_) (Finset.sum_congr rfl fun r _ => ?_)
  · exact congrArg₂ (· * ·) (blkW m c t k n) (blkDY m c t s n)
  · exact congrArg₂ (· * ·) (blkWS m c t k) (rowDS m c t s)
  · exact congrArg₂ (· * ·) (blkWA m c t k r _) (congrArg (two * ·) (e r))

/-! ## The result arrays after the grid -/

theorem congr_fun₃ {α β γ δ : Type} (f : α → β → γ → δ) {a a' : α} {b b' : β} {d d' : γ} (ha : a = a') (hb : b = b') (hd : d = d') :
    f a b d = f a' b' d' := by rw [ha, hb, hd]

theorem arr8 (c : Dev nD) (hR : Reals m c) :
    (dats m 0 c).arrAt 8 cfg0.N = fun i : S3x2880x512.Idx => fDX m c (i 0) (i 2) (i 1) := by
  refine (dats m 0 c).arrAt_eq_of_covers 8 _ (by decide +kernel) fun t hf y => ?_
  blk_simp
  rw [after0_8]
  revert y
  show ∀ y : S1x480x512.Idx, _
  intro y
  idx_vars y
  obtain rfl : y0 = 0 := Subsingleton.elim _ _
  refine (dxAt_apply m c hR t y1 y2).trans ?_
  refine congr_fun₃ (fDX m c) (Fin.ext ?_) (Fin.ext ?_) (Fin.ext ?_) <;> blk_simp [idx8 t] <;> simp [bat, blkRow]

/-- The last point of the grid. -/
def tLast : Fin cfg0.N := ⟨17, by rw [show cfg0.N = 18 from N_0]; decide⟩

theorem arr9 (c : Dev nD) (hR : Reals m c) :
    (dats m 0 c).arrAt 9 cfg0.N = fun i : S8x2880.Idx => fDA m c 0 (i 0) (i 1) + fDA m c 1 (i 0) (i 1) + fDA m c 2 (i 0) (i 1) := by
  refine (dats m 0 c).arrAt_eq_of_after_last 9 tLast (by decide +kernel) _ fun j => ?_
  blk_simp
  rw [after0_9]
  revert j
  show ∀ j : S8x2880.Idx, _
  intro j
  idx_vars j
  show daAt m c 0 (ix2 j0 j1) + daAt m c 1 (ix2 j0 j1) + daAt m c 2 (ix2 j0 j1) = _
  rw [daAt_apply m c hR, daAt_apply m c hR, daAt_apply m c hR]
  rfl

theorem arr10 (c : Dev nD) (hR : Reals m c) :
    (dats m 0 c).arrAt 10 cfg0.N = fun i : S8x5760.Idx => fDB m c 0 (i 0) (i 1) + fDB m c 1 (i 0) (i 1) + fDB m c 2 (i 0) (i 1) := by
  refine (dats m 0 c).arrAt_eq_of_after_last 10 tLast (by decide +kernel) _ fun j => ?_
  blk_simp
  rw [after0_10]
  revert j
  show ∀ j : S8x5760.Idx, _
  intro j
  idx_vars j
  show dbAt m c 0 (ix2 j0 j1) + dbAt m c 1 (ix2 j0 j1) + dbAt m c 2 (ix2 j0 j1) = _
  rw [dbAt_apply m c hR, dbAt_apply m c hR, dbAt_apply m c hR]
  rfl

theorem arr11 (c : Dev nD) :
    (dats m 0 c).arrAt 11 cfg0.N = fun i : S3x8x512.Idx => fT m c (i 0) (i 1) (i 2) := by
  refine (dats m 0 c).arrAt_eq_of_covers 11 _ (by decide +kernel) fun t hf y => ?_
  blk_simp
  rw [after0_11]
  revert y
  show ∀ y : S1x8x512.Idx, _
  intro y
  idx_vars y
  obtain rfl : y0 = 0 := Subsingleton.elim _ _
  refine (tAt_apply m c _ y1 y2).trans ?_
  rw [bat_pt]
  refine congr_fun₃ (fT m c) (Fin.ext ?_) (Fin.ext ?_) (Fin.ext ?_) <;> blk_simp [idx11 t] <;> simp [bat]

theorem arr12 (c : Dev nD) :
    (dats m 0 c).arrAt 12 cfg0.N = fun i : S3x8x512.Idx => fXA m c (i 0) (i 1) (i 2) := by
  refine (dats m 0 c).arrAt_eq_of_covers 12 _ (by decide +kernel) fun t hf y => ?_
  blk_simp
  rw [after0_12]
  revert y
  show ∀ y : S1x8x512.Idx, _
  intro y
  idx_vars y
  obtain rfl : y0 = 0 := Subsingleton.elim _ _
  refine (xaAt_apply m c _ y1 y2).trans ?_
  rw [bat_pt]
  refine congr_fun₃ (fXA m c) (Fin.ext ?_) (Fin.ext ?_) (Fin.ext ?_) <;> blk_simp [idx12 t] <;> simp [bat]

/-! ## The results as the host leaves them -/

/-- What a buffer holds after the host operations that follow the kernel. -/
abbrev endOf (c : Dev nD) (b : Ref sig .tc) : Buf (Elt Ideal) ((c : Thread nD τ).loc b) := Pipeline.afterTail₀ cfgs (dats m) 0 (V0 m) [hostOps1] c b

/-- Before those operations a result array of the kernel holds what the grid left in it. -/
theorem withArr (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 (by decide) c _ _ w

/-- The gradient of the activations, transposed back by the host. -/
theorem end8 (c : Dev nD) (hR : Reals m c) : endOf m c main_v8 = fun i : S3x512x2880.Idx => fDX m c (i 0) (i 1) (i 2) := by
  funext i
  idx_vars i
  unfold endOf Pipeline.afterTail₀
  after_reads_at
  exact congrFun ((withArr m c 8).trans (arr8 m c hR)) (ix3 i0 i2 i1)
/-- The first factor's gradient, transposed back by the host. -/
theorem end9 (c : Dev nD) (hR : Reals m c) :
    endOf m c main_v9 = fun i : S2880x8.Idx => fDA m c 0 (i 1) (i 0) + fDA m c 1 (i 1) (i 0) + fDA m c 2 (i 1) (i 0) := by
  funext i
  idx_vars i
  unfold endOf Pipeline.afterTail₀
  after_reads_at
  exact congrFun ((withArr m c 9).trans (arr9 m c hR)) (ix2 i1 i0)
/-- The scaled product with the second factor, transposed back by the host. -/
theorem end10 (c : Dev nD) : endOf m c main_v10 = fun i : S3x512x8.Idx => fT m c (i 0) (i 2) (i 1) := by
  funext i
  idx_vars i
  unfold endOf Pipeline.afterTail₀
  after_reads_at
  exact congrFun ((withArr m c 11).trans (arr11 m c)) (ix3 i0 i2 i1)
/-- The scaled product with the first factor, transposed back by the host. -/
theorem end11 (c : Dev nD) : endOf m c main_v11 = fun i : S3x512x8.Idx => fXA m c (i 0) (i 2) (i 1) := by
  funext i
  idx_vars i
  unfold endOf Pipeline.afterTail₀
  after_reads_at
  exact congrFun ((withArr m c 12).trans (arr12 m c)) (ix3 i0 i2 i1)

variable (ρ : Dev nD → PrngReg)

/-- The kernel's run, read: its five results as formulas over the arguments, and the arguments unchanged. -/
theorem run_values (hR : ∀ c, Reals m c) :
    θ_run (defs (F := Ideal)) (onTc (τ := τ) (main (F := Ideal))) ⟨m, fun _ => 0, ρ⟩ fun r => ∀ c : Dev nD,
      (r.2.mem ((c : Thread nD τ).loc main_v8) = fun i : S3x512x2880.Idx => fDX m c (i 0) (i 1) (i 2))
      ∧ (r.2.mem ((c : Thread nD τ).loc main_v9) = fun i : S2880x8.Idx => fDA m c 0 (i 1) (i 0) + fDA m c 1 (i 1) (i 0) + fDA m c 2 (i 1) (i 0))
      ∧ (r.2.mem ((c : Thread nD τ).loc main_v7_2) = fun i : S8x5760.Idx => fDB m c 0 (i 0) (i 1) + fDB m c 1 (i 0) (i 1) + fDB m c 2 (i 0) (i 1))
      ∧ (r.2.mem ((c : Thread nD τ).loc main_v10) = fun i : S3x512x8.Idx => fT m c (i 0) (i 2) (i 1))
      ∧ (r.2.mem ((c : Thread nD τ).loc main_v11) = fun i : S3x512x8.Idx => fXA m c (i 0) (i 2) (i 1)) :=
  (θ_run defs _ _).mono (fun _ h c =>
    ⟨((h c).2 main_v8 (Pipeline.mem_restRefs_of main_v8 (by decide) (by decide))).trans (end8 m c (hR c)),
     ((h c).2 main_v9 (Pipeline.mem_restRefs_of main_v9 (by decide) (by decide))).trans (end9 m c (hR c)),
     ((h c).1 10).trans (arr10 m c (hR c)),
     ((h c).2 main_v10 (Pipeline.mem_restRefs_of main_v10 (by decide) (by decide))).trans (end10 m c),
     ((h c).2 main_v11 (Pipeline.mem_restRefs_of main_v11 (by decide) (by decide))).trans (end11 m c)⟩) (run_main m ρ)

end Cert.KernelIdeal.Gen

end
-- ==== Proof.KPre.lean ====
module

public import proofs.«01_k».proof.Proof.KValue
public import proofs.«01_k».proof.Defs
public import proofs.«01_k».proof.Proof.Gen.Pre_finite

@[expose] public section

set_option maxRecDepth 16384

noncomputable section

namespace Cert.KernelIdeal.Gen

open Idealize.ShloMosaic Idealize.ShloMosaic.TcCoe

/-- A code word that is not one of the two not-a-number words denotes a real number. -/
theorem real_e4m3 (w : BitVec 8) (h : Scalar.cmpi .ne (w.setWidth 32 &&& 127#32) 127#32 = 1#1) : IsReal (Ideal.ofBits .fp8e4m3 w) := by
  have key : ∀ w : BitVec 8, Scalar.cmpi .ne (w.setWidth 32 &&& 127#32) 127#32 = 1#1
      → ¬((w.extractLsb' 3 4).toNat = 15 ∧ (w.extractLsb' 0 3).toNat = 7) := by decide +kernel
  have hk := key w h
  show IsReal (Ideal.e4m3fn w)
  unfold Ideal.e4m3fn
  simp only [hk, if_false]
  split <;> exact ⟨_, rfl⟩
/-- A code word whose exponent field is not all ones denotes a real number. -/
theorem real_e5m2 (w : BitVec 8) (h : Scalar.cmpi .ne (w.setWidth 32 &&& 124#32) 124#32 = 1#1) : IsReal (Ideal.ofBits .fp8e5m2 w) := by
  have key : ∀ w : BitVec 8, Scalar.cmpi .ne (w.setWidth 32 &&& 124#32) 124#32 = 1#1
      → ¬((w.extractLsb' 2 5).toNat = 2 ^ 5 - 1) := by decide +kernel
  have hk := key w h
  show IsReal (Ideal.ieee 5 2 w)
  unfold Ideal.ieee
  simp only [hk, if_false]
  split <;> exact ⟨_, rfl⟩
/-- An extended real of magnitude below `+∞` is a real number. -/
theorem real_abs (v : EReal) (h : max v (-v) < ⊤) : IsReal v := by
  induction v with
  | bot => simp at h
  | top => simp at h
  | coe r => exact ⟨r, rfl⟩

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]
/-- The same, as the comparison of a magnitude with an infinite bound says it. -/
theorem real_lt (v w : EReal) (hw : w = ⊤) (h : BitVec.ofBool (decide (max v (-v) < w)) = 1#1) : IsReal v := by
  subst hw
  by_cases hd : max v (-v) < ⊤
  · exact real_abs v hd
  · simp [hd] at h

variable (m : (ℓ : Loc nD τ sig) → Buf (Elt Ideal) ℓ)

/-- Under the precondition every argument but the frozen weight and its scale holds real numbers. -/
theorem reals_of_pre [Cert.Pre_finite.Facts] (h : Cert.Pre_KernelIdeal_finite m) (c : Dev nD) : Reals m c := by
  obtain ⟨h0, h2, h1, h3, h6, h7⟩ := h c
  refine ⟨fun b s k => ?_, fun b s => ?_, fun b s n => ?_, fun b s => ?_, fun k r => ?_, fun r n => ?_⟩
  · have e := congrFun h0 (ix3 b s k)
    pointwise [Cert.Pre_finite.fn, Cert.Pre_finite.fn_part1] at e
    exact real_e4m3 _ e
  · have e := congrFun h1 (ix2 b s)
    pointwise [Cert.Pre_finite.fn, Cert.Pre_finite.fn_part1] at e
    exact real_lt _ _ inf_f32 e
  · have e := congrFun h2 (ix3 b s n)
    pointwise [Cert.Pre_finite.fn, Cert.Pre_finite.fn_part1] at e
    exact real_e5m2 _ e
  · have e := congrFun h3 (ix2 b s)
    pointwise [Cert.Pre_finite.fn, Cert.Pre_finite.fn_part1] at e
    exact real_lt _ _ inf_f32 e
  · have e := congrFun h6 (ix2 k r)
    pointwise [Cert.Pre_finite.fn, Cert.Pre_finite.fn_part1] at e
    exact real_lt _ _ inf_bf16 e
  · have e := congrFun h7 (ix2 r n)
    pointwise [Cert.Pre_finite.fn, Cert.Pre_finite.fn_part1] at e
    exact real_lt _ _ inf_bf16 e

end Cert.KernelIdeal.Gen

end
-- ==== Proof.RVal.lean ====
module

public import proofs.«01_k».proof.Proof.Gen.ReferenceIdeal.Frame
public import Idealize.ShloMosaic.Lib.Pointwise
public import Idealize.ShloMosaic.Lib.Pipeline.ValueKit
public import Idealize.ShloMosaic.Lib.Pipeline.ValueKit.Point
public import Idealize.ShloMosaic.Lib.Claim
public import Idealize.ShloMosaic.Lib.StableHlo.ReadAt

@[expose] public section

set_option maxRecDepth 16384

noncomputable section

namespace Cert.ReferenceIdeal.Gen

open Idealize.ShloMosaic Idealize.ShloMosaic.TcCoe
open Idealize.ShloMosaic.Pipeline (Dat Cfg Window BodyObligation cellOf)

variable (m : (ℓ : Loc nD τ sig) → Buf (Elt Ideal) ℓ)

/-- The activations as extended reals. -/
def rX (c : Dev nD) (b : Fin 3) (s : Fin 512) (k : Fin 2880) : EReal := Ideal.ofBits .fp8e4m3 (m (c.tc.loc main_arg0) (ix3 b s k))
/-- The activation scale of a row. -/
def rXS (c : Dev nD) (b : Fin 3) (s : Fin 512) : EReal := m (c.tc.loc main_arg1) (ix2 b s)
/-- The output gradients as extended reals. -/
def rDY (c : Dev nD) (b : Fin 3) (s : Fin 512) (n : Fin 5760) : EReal := Ideal.ofBits .fp8e5m2 (m (c.tc.loc main_arg2) (ix3 b s n))
/-- The gradient scale of a row. -/
def rDS (c : Dev nD) (b : Fin 3) (s : Fin 512) : EReal := m (c.tc.loc main_arg3) (ix2 b s)
/-- The frozen weight. -/
def rW (c : Dev nD) (k : Fin 2880) (n : Fin 5760) : EReal := m (c.tc.loc main_arg4) (ix2 k n)
/-- The scale of a weight row. -/
def rWS (c : Dev nD) (k : Fin 2880) : EReal := m (c.tc.loc main_arg5) (ix1 k)
/-- The first adapter factor. -/
def rA (c : Dev nD) (k : Fin 2880) (r : Fin 8) : EReal := m (c.tc.loc main_arg6) (ix2 k r)
/-- The second adapter factor. -/
def rB (c : Dev nD) (r : Fin 8) (n : Fin 5760) : EReal := m (c.tc.loc main_arg7) (ix2 r n)

theorem rV0 (c : Dev nD) (b : Fin 3) (s : Fin 512) (k : Fin 2880) : V m c main_v0 (ix3 b s k) = rX m c b s k := by
  unfold rX; entry_read; after_reads_at
theorem rV1 (c : Dev nD) (b : Fin 3) (s : Fin 512) (n : Fin 5760) : V m c main_v1 (ix3 b s n) = rDY m c b s n := by
  unfold rDY; entry_read; after_reads_at

/-! ## The widened arrays after the gridless call -/

theorem rarr3 (c : Dev nD) : (dats m 0 c).arrAt 3 cfg0.N = fun i : S3x512x2880.Idx => (V m c main_v0 i : EReal) := by
  refine (dats m 0 c).arrAt_eq_of_after_last 3 t0_0 (by decide +kernel) _ fun j => ?_
  blk_simp
  rw [after0_3]
  frame_out
  revert j
  show ∀ j : S3x512x2880.Idx, _
  intro j
  idx_vars j
  have e : iblk m c 0 t0_0 (ix3 j0 j1 j2) = V m c main_v0 (ix3 j0 j1 j2) := by blk_ext! [iblk, (by decide +kernel : win0_0.index t0_0 = ![0, 0, 0])]
  refine Eq.trans ?_ e
  pointwise [k0_pay1]
theorem rarr4 (c : Dev nD) : (dats m 0 c).arrAt 4 cfg0.N = fun i : S3x512x5760.Idx => (V m c main_v1 i : EReal) := by
  refine (dats m 0 c).arrAt_eq_of_after_last 4 t0_0 (by decide +kernel) _ fun j => ?_
  blk_simp
  rw [after0_4]
  frame_out
  revert j
  show ∀ j : S3x512x5760.Idx, _
  intro j
  idx_vars j
  have e : iblk m c 1 t0_0 (ix3 j0 j1 j2) = V m c main_v1 (ix3 j0 j1 j2) := by blk_ext! [iblk, (by decide +kernel : win0_1.index t0_0 = ![0, 0, 0])]
  refine Eq.trans ?_ e
  pointwise [k0_pay2]
theorem rarr5 (c : Dev nD) : (dats m 0 c).arrAt 5 cfg0.N = fun i : S2880x5760.Idx => (V m c main_arg4 i : EReal) := by
  refine (dats m 0 c).arrAt_eq_of_after_last 5 t0_0 (by decide +kernel) _ fun j => ?_
  blk_simp
  rw [after0_5]
  frame_out
  revert j
  show ∀ j : S2880x5760.Idx, _
  intro j
  idx_vars j
  have e : iblk m c 2 t0_0 (ix2 j0 j1) = V m c main_arg4 (ix2 j0 j1) := by blk_ext! [iblk, (by decide +kernel : win0_2.index t0_0 = ![0, 0])]
  refine Eq.trans ?_ e
  pointwise [k0_pay3]

/-! ## Buffers before the host operations that follow -/

/-- Every buffer before the host operations that follow the gridless call. -/
def mid (c : Dev nD) : Valuation τ sig (Elt Ideal) :=
  Pipeline.withArrays (cfgs 0).spec c (V0 m c) (fun w => (dats m 0 c).arrAt w (cfgs 0).N)
theorem mid_arr (c : Dev nD) (w : Fin cfg0.W) : mid m c (Proc.devRef .tc (Pipeline.arrRef spec0 w)) = (dats m 0 c).arrAt w cfg0.N :=
  Pipeline.withArrays_arr spec0 (by decide) c _ _ w
theorem mid_arg (c : Dev nD) (b : Ref sig .tc) (h : ∀ w, Pipeline.arrRef spec0 w ≠ b) : mid m c (Proc.devRef .tc b) = V m c b :=
  Pipeline.withArrays_of_ne spec0 c _ _ b h

theorem midX (c : Dev nD) (b : Fin 3) (s : Fin 512) (k : Fin 2880) : mid m c (Proc.devRef .tc main_v2_0) (ix3 b s k) = rX m c b s k :=
  (congrFun ((mid_arr m c 3).trans (rarr3 m c)) (ix3 b s k)).trans (rV0 m c b s k)
theorem midDY (c : Dev nD) (b : Fin 3) (s : Fin 512) (n : Fin 5760) : mid m c (Proc.devRef .tc main_v2_1) (ix3 b s n) = rDY m c b s n :=
  (congrFun ((mid_arr m c 4).trans (rarr4 m c)) (ix3 b s n)).trans (rV1 m c b s n)
theorem midW (c : Dev nD) (k : Fin 2880) (n : Fin 5760) : mid m c (Proc.devRef .tc main_v2_2) (ix2 k n) = rW m c k n :=
  (congrFun ((mid_arr m c 5).trans (rarr5 m c)) (ix2 k n)).trans (congrFun (V_main_arg4 m c) _)
theorem midXS (c : Dev nD) (b : Fin 3) (s : Fin 512) : mid m c (Proc.devRef .tc main_arg1) (ix2 b s) = rXS m c b s :=
  congrFun ((mid_arg m c main_arg1 (by decide)).trans (V_main_arg1 m c)) _
theorem midDS (c : Dev nD) (b : Fin 3) (s : Fin 512) : mid m c (Proc.devRef .tc main_arg3) (ix2 b s) = rDS m c b s :=
  congrFun ((mid_arg m c main_arg3 (by decide)).trans (V_main_arg3 m c)) _
theorem midWS (c : Dev nD) (k : Fin 2880) : mid m c (Proc.devRef .tc main_arg5) (ix1 k) = rWS m c k :=
  congrFun ((mid_arg m c main_arg5 (by decide)).trans (V_main_arg5 m c)) _
theorem midA (c : Dev nD) (k : Fin 2880) (r : Fin 8) : mid m c (Proc.devRef .tc main_arg6) (ix2 k r) = rA m c k r :=
  congrFun ((mid_arg m c main_arg6 (by decide)).trans (V_main_arg6 m c)) _
theorem midB (c : Dev nD) (r : Fin 8) (n : Fin 5760) : mid m c (Proc.devRef .tc main_arg7) (ix2 r n) = rB m c r n :=
  congrFun ((mid_arg m c main_arg7 (by decide)).trans (V_main_arg7 m c)) _

/-! ## The results -/

theorem mulc {a b a' b' : EReal} (h : a = a') (h' : b = b') : a * b = a' * b' := by rw [h, h']
theorem addc {a b a' b' : EReal} (h : a = a') (h' : b = b') : a + b = a' + b' := by rw [h, h']
theorem sumc {n : ℕ} {f g : Fin n → EReal} (h : ∀ i, f i = g i) : ∑ i, f i = ∑ i, g i := Finset.sum_congr rfl fun i _ => h i

/-- The scaled product of the gradients with the second adapter factor. -/
def rT (c : Dev nD) (b : Fin 3) (s : Fin 512) (r : Fin 8) : EReal := (∑ n : Fin 5760, rDY m c b s n * rB m c r n) * rDS m c b s
/-- The scaled product of the activations with the first adapter factor. -/
def rXA (c : Dev nD) (b : Fin 3) (s : Fin 512) (r : Fin 8) : EReal := (∑ k : Fin 2880, rX m c b s k * rA m c k r) * rXS m c b s
/-- The first factor's gradient. -/
def rDA (c : Dev nD) (k : Fin 2880) (r : Fin 8) : EReal :=
  Ideal.ofBits .f32 0x40000000#32 * ∑ b : Fin 3, ∑ s : Fin 512, rX m c b s k * (rXS m c b s * rT m c b s r)
/-- The second factor's gradient. -/
def rDB (c : Dev nD) (r : Fin 8) (n : Fin 5760) : EReal :=
  Ideal.ofBits .f32 0x40000000#32 * ∑ b : Fin 3, ∑ s : Fin 512, rXA m c b s r * rDS m c b s * rDY m c b s n
/-- The gradient of the activations. -/
def rDX (c : Dev nD) (b : Fin 3) (s : Fin 512) (k : Fin 2880) : EReal :=
  (∑ n : Fin 5760, rDY m c b s n * rW m c k n) * (rDS m c b s * rWS m c k)
    + Ideal.ofBits .f32 0x40000000#32 * ∑ r : Fin 8, rT m c b s r * rA m c k r

/-- What a buffer holds after the last host operation. -/
abbrev endOf (c : Dev nD) (b : Ref sig .tc) : Buf (Elt Ideal) ((c : Thread nD τ).loc b) := Pipeline.afterTail₀ cfgs (dats m) 0 (V0 m) [hostOps1] c b

theorem end6 (c : Dev nD) : endOf m c main_v6 = fun i : S3x512x8.Idx => rT m c (i 0) (i 1) (i 2) := by
  funext i
  idx_vars i
  show StableHlo.after (List.flatten [hostOps1]) (mid m c) (Proc.devRef .tc _) _ = _
  after_reads_at
  exact mulc (sumc fun n => mulc (midDY m c i0 i1 n) (midB m c i2 n)) (midDS m c i0 i1)
theorem end10 (c : Dev nD) : endOf m c main_v10 = fun i : S3x512x8.Idx => rXA m c (i 0) (i 1) (i 2) := by
  funext i
  idx_vars i
  show StableHlo.after (List.flatten [hostOps1]) (mid m c) (Proc.devRef .tc _) _ = _
  after_reads_at
  exact mulc (sumc fun k => mulc (midX m c i0 i1 k) (midA m c k i2)) (midXS m c i0 i1)
theorem end30 (c : Dev nD) : endOf m c main_v30 = fun i : S2880x8.Idx => rDA m c (i 0) (i 1) := by
  funext i
  idx_vars i
  show StableHlo.after (List.flatten [hostOps1]) (mid m c) (Proc.devRef .tc _) _ = _
  after_reads_at
  exact mulc rfl (sumc fun b => sumc fun s => mulc (midX m c b s i0) (mulc (midXS m c b s) (mulc (sumc fun n => mulc (midDY m c b s n) (midB m c i1 n)) (midDS m c b s))))
theorem end37 (c : Dev nD) : endOf m c main_v37 = fun i : S8x5760.Idx => rDB m c (i 0) (i 1) := by
  funext i
  idx_vars i
  show StableHlo.after (List.flatten [hostOps1]) (mid m c) (Proc.devRef .tc _) _ = _
  after_reads_at
  exact mulc rfl (sumc fun b => sumc fun s => mulc (mulc (mulc (sumc fun k => mulc (midX m c b s k) (midA m c k i0)) (midXS m c b s)) (midDS m c b s)) (midDY m c b s i1))
theorem end23 (c : Dev nD) : endOf m c main_v23 = fun i : S3x512x2880.Idx => rDX m c (i 0) (i 1) (i 2) := by
  funext i
  idx_vars i
  show StableHlo.after (List.flatten [hostOps1]) (mid m c) (Proc.devRef .tc _) _ = _
  after_reads_at
  exact addc (mulc (sumc fun n => mulc (midDY m c i0 i1 n) (midW m c i2 n)) (mulc (midDS m c i0 i1) (midWS m c i2))) (mulc rfl (sumc fun r => mulc (mulc (sumc fun n => mulc (midDY m c i0 i1 n) (midB m c r n)) (midDS m c i0 i1)) (midA m c i2 r)))

variable (ρ : Dev nD → PrngReg)

/-- The reference's run, read: its five results as formulas over the arguments. -/
theorem run_values :
    θ_run (defs (F := Ideal)) (onTc (τ := τ) (main (F := Ideal))) ⟨m, fun _ => 0, ρ⟩ fun r => ∀ c : Dev nD,
      (r.2.mem ((c : Thread nD τ).loc main_v23) = fun i : S3x512x2880.Idx => rDX m c (i 0) (i 1) (i 2))
      ∧ (r.2.mem ((c : Thread nD τ).loc main_v30) = fun i : S2880x8.Idx => rDA m c (i 0) (i 1))
      ∧ (r.2.mem ((c : Thread nD τ).loc main_v37) = fun i : S8x5760.Idx => rDB m c (i 0) (i 1))
      ∧ (r.2.mem ((c : Thread nD τ).loc main_v6) = fun i : S3x512x8.Idx => rT m c (i 0) (i 1) (i 2))
      ∧ (r.2.mem ((c : Thread nD τ).loc main_v10) = fun i : S3x512x8.Idx => rXA m c (i 0) (i 1) (i 2)) :=
  (θ_run defs _ _).mono (fun _ h c =>
    ⟨((h c).2 main_v23 (Pipeline.mem_restRefs_of main_v23 (by decide) (by decide))).trans (end23 m c),
     ((h c).2 main_v30 (Pipeline.mem_restRefs_of main_v30 (by decide) (by decide))).trans (end30 m c),
     ((h c).2 main_v37 (Pipeline.mem_restRefs_of main_v37 (by decide) (by decide))).trans (end37 m c),
     ((h c).2 main_v6 (Pipeline.mem_restRefs_of main_v6 (by decide) (by decide))).trans (end6 m c),
     ((h c).2 main_v10 (Pipeline.mem_restRefs_of main_v10 (by decide) (by decide))).trans (end10 m c)⟩) (run_main m ρ)

end Cert.ReferenceIdeal.Gen

end
-- ==== Proof.Algebra.lean ====
module

public import proofs.«01_k».proof.Proof.KPre
public import proofs.«01_k».proof.Proof.RVal

@[expose] public section

set_option maxRecDepth 16384

noncomputable section

namespace Cert.KernelIdeal.Gen

open Idealize.ShloMosaic Idealize.ShloMosaic.TcCoe

/-! ## The formulas of the kernel are those of the reference -/

/-- Multiplication distributes over a sum of two real numbers. -/
theorem mul_add_real {a u v : EReal} (ha : IsReal a) (hu : IsReal u) (hv : IsReal v) : a * (u + v) = a * u + a * v := by
  obtain ⟨a, rfl⟩ := ha; obtain ⟨u, rfl⟩ := hu; obtain ⟨v, rfl⟩ := hv
  rw [← EReal.coe_add, ← EReal.coe_mul, ← EReal.coe_mul, ← EReal.coe_mul, ← EReal.coe_add, mul_add]

/-- Multiplication distributes over a finite sum of real numbers. -/
theorem mul_sum_real {ι : Type} (S : Finset ι) (a : EReal) (f : ι → EReal) (ha : IsReal a) (h : ∀ i, IsReal (f i)) :
    a * ∑ i ∈ S, f i = ∑ i ∈ S, a * f i := by
  classical
  induction S using Finset.induction_on with
  | empty => simp
  | insert i S hi ih => rw [Finset.sum_insert hi, Finset.sum_insert hi, mul_add_real ha (h i) (IsReal.sum S f h), ih]

/-- Twice a sum of three real numbers is the sum of their doubles, added first to last. -/
theorem two_mul_three {u : Fin 3 → EReal} (h : ∀ i, IsReal (u i)) : two * ∑ i, u i = two * u 0 + two * u 1 + two * u 2 := by
  rw [Fin.sum_univ_three, mul_add_real two_real ((h 0).add (h 1)) (h 2), mul_add_real two_real (h 0) (h 1)]

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The two programs' arguments denote the same extended reals. -/
structure Same (c : Dev nD) : Prop where
  x : ReferenceIdeal.Gen.rX m' c = eX m c
  xs : ReferenceIdeal.Gen.rXS m' c = eXS m c
  dy : ReferenceIdeal.Gen.rDY m' c = eDY m c
  ds : ReferenceIdeal.Gen.rDS m' c = eDS m c
  w : ReferenceIdeal.Gen.rW m' c = eW m c
  ws : ReferenceIdeal.Gen.rWS m' c = eWS m c
  a : ReferenceIdeal.Gen.rA m' c = eA m c
  b : ReferenceIdeal.Gen.rB m' c = eB m c

variable {m m'}

theorem Same.t_eq {c : Dev nD} (h : Same m m' c) (b : Fin 3) (s : Fin 512) (r : Fin 8) :
    ReferenceIdeal.Gen.rT m' c b s r = fT m c b r s := by
  unfold ReferenceIdeal.Gen.rT fT
  rw [h.dy, h.b, h.ds]
  exact congrArg (· * _) (Finset.sum_congr rfl fun n _ => mul_comm _ _)

theorem Same.xa_eq {c : Dev nD} (h : Same m m' c) (b : Fin 3) (s : Fin 512) (r : Fin 8) :
    ReferenceIdeal.Gen.rXA m' c b s r = fXA m c b r s := by
  unfold ReferenceIdeal.Gen.rXA fXA
  rw [h.x, h.a, h.xs]
  exact congrArg (· * _) (Finset.sum_congr rfl fun n _ => mul_comm _ _)

theorem Same.da_eq {c : Dev nD} (h : Same m m' c) (hR : Reals m c) (k : Fin 2880) (r : Fin 8) :
    ReferenceIdeal.Gen.rDA m' c k r = fDA m c 0 r k + fDA m c 1 r k + fDA m c 2 r k := by
  unfold ReferenceIdeal.Gen.rDA fDA
  simp only [h.t_eq]
  rw [h.x, h.xs]
  refine (two_mul_three fun b => IsReal.sum _ _ fun s => (hR.x b s k).mul ((hR.xs b s).mul (hR.t b r s))).trans ?_
  have e : ∀ b, (∑ s : Fin 512, eX m c b s k * (eXS m c b s * fT m c b r s)) = ∑ s : Fin 512, eXS m c b s * fT m c b r s * eX m c b s k :=
    fun b => Finset.sum_congr rfl fun s _ => mul_comm _ _
  rw [e, e, e]

theorem Same.db_eq {c : Dev nD} (h : Same m m' c) (hR : Reals m c) (r : Fin 8) (n : Fin 5760) :
    ReferenceIdeal.Gen.rDB m' c r n = fDB m c 0 r n + fDB m c 1 r n + fDB m c 2 r n := by
  unfold ReferenceIdeal.Gen.rDB fDB
  simp only [h.xa_eq]
  rw [h.ds, h.dy]
  exact two_mul_three fun b => IsReal.sum _ _ fun s => ((hR.xa b r s).mul (hR.ds b s)).mul (hR.dy b s n)

theorem Same.dx_eq {c : Dev nD} (h : Same m m' c) (hR : Reals m c) (b : Fin 3) (s : Fin 512) (k : Fin 2880) :
    ReferenceIdeal.Gen.rDX m' c b s k = fDX m c b s k := by
  unfold ReferenceIdeal.Gen.rDX fDX
  simp only [h.t_eq]
  rw [h.dy, h.w, h.ds, h.ws, h.a]
  refine ReferenceIdeal.Gen.addc (ReferenceIdeal.Gen.mulc (ReferenceIdeal.Gen.sumc fun n => mul_comm _ _) (mul_comm _ _)) ?_
  refine (mul_sum_real _ two _ two_real fun r => (hR.t b r s).mul (hR.a k r)).trans (ReferenceIdeal.Gen.sumc fun r => ?_)
  rw [mul_comm (eA m c k r), mul_assoc]

end Cert.KernelIdeal.Gen

end
-- ==== Proof.KernelFrame.lean ====
module
public import proofs.«01_k».proof.Defs
public import proofs.«01_k».proof.Proof.KFrame
public import proofs.«01_k».proof.Proof.Gen.Kernel.Frame
@[expose] public section
set_option maxRecDepth 16384
noncomputable section
namespace Cert.Kernel.Gen
open Idealize.ShloMosaic Idealize.SL.Sem

/-- The two printings of the kernel have the same body at its one label. -/
theorem defs₀_eq {F : FTy → Type} [FloatOps F] :
    (Cert.Kernel.defs₀ (F := F)) = (Cert.KernelIdeal.defs₀ (F := F)) := by
  unfold Cert.Kernel.defs₀ Cert.KernelIdeal.defs₀
  refine congrArg Defs.onTc ?_
  funext l a
  match l, a with
  | 0, (t, s) => rfl

/-- The two printings of the kernel define the same programs. -/
theorem defs_eq {F : FTy → Type} [FloatOps F] :
    (Cert.Kernel.defs (F := F)) = (Cert.KernelIdeal.defs (F := F)) :=
  congrArg (Pipeline.defs Cert.KernelIdeal.pcfgs) defs₀_eq

/-- The kernel as printed runs, leaves its arguments unchanged and ends with every counter at zero. -/
theorem frame : Cert.quiescent_Kernel := by
  intro m ρ _
  rw [defs_eq]
  exact Cert.KernelIdeal.Gen.frame (F := Bits) m ρ

end Cert.Kernel.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Algebra
public import proofs.«01_k».proof.Proof.KernelFrame
public import Idealize.ShloMosaic.Adequacy
public import Idealize.ShloMosaic.Init

@[expose] public section

noncomputable section

namespace Cert.Proof

open Idealize.ShloMosaic Idealize.SL.Sem Cert.Kernel

/-- On arguments that the two programs share, their formulas read the same extended reals. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7)) :
    Cert.KernelIdeal.Gen.Same m m' c where
  x := by funext b s k; exact congrArg (Ideal.ofBits .fp8e4m3) (congrFun h0 _)
  xs := by funext b s; exact congrFun h1 _
  dy := by funext b s n; exact congrArg (Ideal.ofBits .fp8e5m2) (congrFun h2 _)
  ds := by funext b s; exact congrFun h3 _
  w := by funext k n; exact congrFun h4 _
  ws := by funext k; exact congrFun h5 _
  a := by funext k r; exact congrFun h6 _
  b := by funext r n; exact congrFun h7 _

/-- Over the extended reals, on finite arguments, the kernel and the reference end with the same five results. -/
theorem algebraic [Cert.Pre_finite.Facts] : Cert.algebraic_KernelIdeal_ReferenceIdeal_pre_finite := by
  intro m g m' g' hpre hagree
  have hR : ∀ c, Cert.KernelIdeal.Gen.Reals m c := fun c => Cert.KernelIdeal.Gen.reals_of_pre m hpre c
  have hS : ∀ c, Cert.KernelIdeal.Gen.Same m m' c := fun c => by
    obtain ⟨h0, h1, h2, h3, h4, h5, h6, h7⟩ := hagree c
    exact same m m' c h0 h1 h2 h3 h4 h5 h6 h7
  refine ⟨fun c i => Cert.KernelIdeal.Gen.fDX m c (i 0) (i 1) (i 2),
    fun c i => Cert.KernelIdeal.Gen.fDA m c 0 (i 1) (i 0) + Cert.KernelIdeal.Gen.fDA m c 1 (i 1) (i 0) + Cert.KernelIdeal.Gen.fDA m c 2 (i 1) (i 0),
    fun c i => Cert.KernelIdeal.Gen.fDB m c 0 (i 0) (i 1) + Cert.KernelIdeal.Gen.fDB m c 1 (i 0) (i 1) + Cert.KernelIdeal.Gen.fDB m c 2 (i 0) (i 1),
    fun c i => Cert.KernelIdeal.Gen.fT m c (i 0) (i 2) (i 1),
    fun c i => Cert.KernelIdeal.Gen.fXA m c (i 0) (i 2) (i 1),
    (θ_run _ _ _).mono (fun _ h c => ?_) (θ_run_and (Cert.KernelIdeal.Gen.run_values m g hR) (Cert.KernelIdeal.Gen.unchanged m g)),
    (θ_run _ _ _).mono (fun _ h c => ?_) (θ_run_and (Cert.ReferenceIdeal.Gen.run_values m' g') (Cert.ReferenceIdeal.Gen.unchanged m' g'))⟩
  · obtain ⟨e0, e1, e2, e3, e4⟩ := h.1 c
    exact ⟨e0, e1, e2, e3, e4, h.2 c⟩
  · obtain ⟨e0, e1, e2, e3, e4⟩ := h.1 c
    exact ⟨e0.trans (funext fun i => (hS c).dx_eq (hR c) (i 0) (i 1) (i 2)),
      e1.trans (funext fun i => (hS c).da_eq (hR c) (i 0) (i 1)),
      e2.trans (funext fun i => (hS c).db_eq (hR c) (i 0) (i 1)),
      e3.trans (funext fun i => (hS c).t_eq (i 0) (i 1) (i 2)),
      e4.trans (funext fun i => (hS c).xa_eq (i 0) (i 1) (i 2)), h.2 c⟩

/-- Every claim of this certificate holds. -/
theorem claim : Cert.Claim := ⟨Cert.Kernel.Gen.facts, Cert.KernelIdeal.Gen.facts, Cert.ReferenceIdeal.Gen.facts, Cert.Pre_finite.Gen.facts,
  Cert.Kernel.Gen.frame, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
